-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "lowest" .bf16 0xFF7F#16 ⊥

def algebraic_KernelIdeal_ReferenceIdeal_on_ranked_without_tie [hKernelIdeal : Cert.KernelIdeal.Facts] [hReferenceIdeal : Cert.ReferenceIdeal.Facts] [hOn_ranked_without_tie : Cert.On_ranked_without_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_ranked_without_tie.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_ranked_without_tie.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_ranked_without_tie : Cert.On_ranked_without_tie.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_ranked_without_tie (hKernelIdeal := hKernelIdeal) (hReferenceIdeal := hReferenceIdeal) (hOn_ranked_without_tie := hOn_ranked_without_tie)
-- ==== On_ranked_without_tie.lean ====
abbrev S256x2048 : Shape := ⟨2, ![256, 2048]⟩
abbrev S256x8 : Shape := ⟨2, ![256, 8]⟩
abbrev S256x7 : Shape := ⟨2, ![256, 7]⟩
abbrev S256x8x7 : Shape := ⟨3, ![256, 8, 7]⟩
abbrev S256x1x7 : Shape := ⟨3, ![256, 1, 7]⟩
abbrev S_ : Shape := ⟨0, ![]⟩

class Facts : Prop where
  bitsLt_bf16_f32 : FTy.bits .bf16 < FTy.bits .f32
  slices_S256x2048_S256x8_0_0 : S256x2048.Slices ![0, 0] S256x8
  slices_S256x8_S256x7_0_0 : S256x8.Slices ![0, 0] S256x7
  slices_S256x8_S256x7_0_1 : S256x8.Slices ![0, 1] S256x7
  bcast_S256x7_S256x1x7_0_2 : S256x7.BroadcastsInDim S256x1x7 (![0, 2] : Fin 2 → Fin S256x1x7.rank)
  bcast_S256x1x7_S256x8x7_0_1_2 : S256x1x7.BroadcastsInDim S256x8x7 (![0, 1, 2] : Fin 3 → Fin S256x8x7.rank)
  reducesTo_S256x8x7_S256x8_d2 : S256x8x7.ReducesTo [2] S256x8
  h_S_ : 0 < S_.numel
  bcast_S_S256x8 : S_.BroadcastsInDim S256x8 (![] : Fin 0 → Fin S256x8.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x2048 .f32) : FVec F S256x2048 .f32 :=
  let v0 : FVec F S256x2048 .f32 := (fun x => Host.sort S256x2048 1 comparator_f32_d1 x) arg0
  v0

def fn {F : FTy → Type} [FloatOps F] (main_arg0 : FVec F S256x2048 .bf16) : IVec S256x8 1 :=
  let main_v0 : FVec F S256x2048 .f32 := (extf .f32 · bitsLt_bf16_f32) main_arg0
  let main_v1 : FVec F S256x2048 .f32 := Host.negf main_v0
  let main_v2 : FVec F S256x2048 .f32 := fn_sort (F := F) main_v1
  let main_v3 : FVec F S256x8 .f32 := (extractStridedSlice S256x8 ![0, 0] · slices_S256x2048_S256x8_0_0) main_v2
  let main_v4 : FVec F S256x8 .f32 := Host.negf main_v3
  let main_v5 : FVec F S256x7 .f32 := (extractStridedSlice S256x7 ![0, 0] · slices_S256x8_S256x7_0_0) main_v4
  let main_v6 : FVec F S256x7 .f32 := (extractStridedSlice S256x7 ![0, 1] · slices_S256x8_S256x7_0_1) main_v4
  let main_v7 : IVec S256x7 1 := cmpf .ogt main_v5 main_v6
  let main_v8 : IVec S256x8x7 32 := iotaInDim S256x8x7 32 2
  let main_v9 : IVec S256x8x7 32 := iotaInDim S256x8x7 32 1
  let main_v10 : IVec S256x1x7 1 := broadcastInDim S256x1x7 ![0, 2] bcast_S256x7_S256x1x7_0_2 main_v7
  let main_v11 : IVec S256x8x7 1 := cmpi .sge main_v8 main_v9
  let main_v12 : IVec S256x8x7 1 := broadcastInDim S256x8x7 ![0, 1, 2] bcast_S256x1x7_S256x8x7_0_1_2 main_v10
  let main_v13 : IVec S256x8x7 1 := ori main_v12 main_v11
  let main_c : IVec S_ 1 := constantI S_ 1 1#1
  let main_v14 : IVec S256x8 1 := (fun x v => Host.reduce IntOp.andi x v reducesTo_S256x8x7_S256x8_d2 h_S_) main_v13 main_c
  let main_cst : FVec F S_ .f32 := constant S_ .f32 0xFF800000#32
  let main_v15 : FVec F S256x8 .f32 := broadcastInDim S256x8 ![] bcast_S_S256x8 main_cst
  let main_v16 : IVec S256x8 1 := cmpf .oeq main_v4 main_v15
  let main_v17 : IVec S256x8 1 := ori main_v14 main_v16
  main_v17
-- ==== Kernel.lean ====
abbrev S256x1024 : Shape := ⟨2, ![256, 1024]⟩
abbrev S256x8 : Shape := ⟨2, ![256, 8]⟩
abbrev S_ : Shape := ⟨0, ![]⟩
abbrev S256x128 : Shape := ⟨2, ![256, 128]⟩
abbrev S256 : Shape := ⟨1, ![256]⟩
abbrev S256x1 : Shape := ⟨2, ![256, 1]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S256x8, .bf16⟩
  | .local _ .vmem, ⟨3, _⟩ => ⟨S256x8, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_19 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_18 : BitVec 32 := 8#32
  let v127 : BitVec 32 := Scalar.muli v9 c8_i32_18
  let v128 : BitVec 32 := Scalar.addi c0_i32_19 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v129 : BitVec 32 := Scalar.muli v5 c4_i32_20
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v131 : BitVec 32 := Scalar.muli v8 c1_i32_21
  let v132 : BitVec 32 := Scalar.addi v130 v131
  v132.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "lowest" => some ⊥
  | _ => none
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S256x2048, .i32⟩
  | .hbm, ⟨4, _⟩ => ⟨S256x2048, .f32⟩
  | .hbm, ⟨5, _⟩ => ⟨S256x2048, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Protocol.lean ====
/-
The exchange protocol of the top-k kernel.

The sixteen devices form eight pairs: device `c` exchanges with the device whose first mesh coordinate is the other
one, `mate c`. Each device tells its mate over the barrier semaphore that its landing buffer may be written, computes
its own eight values, waits for its mate's word, copies its eight values into its mate's landing buffer, and waits for
the copy it sent and the copy it receives.

Here: the pairing, the semaphore cells, what the buffers hold, the schedule of the three cells of a device, what each
device owes at the start, and the levels of the cells.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The ghost state: one copy for the pipeline, one for the exchange -/

/-- The user part of the resource algebra. -/
abbrev UU : Type := UR sig nD τ × UR sig nD τ

local notation "𝕄" => MT nD τ sig Unit (Elt F) ℕ UU ℕ

/-- The pipeline's copy. -/
abbrev EP : Emb (UR sig nD τ) (MT nD τ sig Unit (Elt F) ℕ UU ℕ) := embL
/-- The exchange's copy. -/
abbrev ER : Emb (UR sig nD τ) (MT nD τ sig Unit (Elt F) ℕ UU ℕ) := embR

variable (m : (ℓ : Loc nD τ sig) → Buf (Elt F) ℓ) (ρ : Dev nD → PrngReg)

/-- The memory at the start: any contents, all counters zero, any generator registers. -/
def s₀ : MemSt nD τ sig (Elt F) := ⟨m, fun _ => 0, ρ⟩

/-! ## The pairs -/

set_option backward.proofsInPublic true in
/-- The device `c` exchanges with: eight further, around sixteen. -/
def mate (c : Dev nD) : Dev nD := ⟨(c.val + 8) % 16, Nat.mod_lt _ (by decide)⟩

/-- The mate of the mate is the device itself. -/
theorem mate_mate (c : Dev nD) : mate (mate c) = c := by revert c; decide

/-- The pairing as a permutation of the devices. -/
def pairing : Dev nD ≃ Dev nD := ⟨mate, mate, mate_mate, mate_mate⟩

/-- The device the barrier signal goes to is the mate. -/
theorem signal_target (c : Dev nD) : (⟨k0_dev1 c, k0_dev1_lt c⟩ : Dev nD) = mate c :=
  Fin.ext ((k0_dev1_eq c).trans (by revert c; decide))
/-- The device the copy goes to is the mate. -/
theorem copy_target (c : Dev nD) : (⟨k0_dev2 c, k0_dev2_lt c⟩ : Dev nD) = mate c :=
  Fin.ext ((k0_dev2_eq c).trans (by revert c; decide))

/-! ## Buffers and cells -/

/-- The staged block of `x`. -/
abbrev xM : Memref sig .tc .vmem S256x1024 .bf16 := Memref.whole cc0_stg0_0
/-- The staged result. -/
abbrev oM : Memref sig .tc .vmem S256x8 .f32 := Memref.whole cc0_stg1_0
/-- The buffer of the device's own eight values. -/
abbrev ownM : Memref sig .tc .vmem S256x8 .bf16 := Memref.whole cc0_scratch0
/-- The landing buffer. -/
abbrev landM : Memref sig .tc .vmem S256x8 .bf16 := Memref.whole cc0_scratch1

/-- The barrier semaphore. -/
abbrev barS : Sem sig := (SemArray.scalar (sig.barrier 0 rfl) : Sems sig S_).sem
/-- The semaphore of the copy sent. -/
abbrev sendS : DmaSem sig := (cc0_scratch2 : DmaSems sig S_).sem
/-- The semaphore of the copy received. -/
abbrev recvS : DmaSem sig := (cc0_scratch3 : DmaSems sig S_).sem

/-- Device `c`'s barrier cell. -/
abbrev barCell (c : Dev nD) : GSem nD τ sig := ((c : Thread nD τ), .reg barS)
/-- Device `c`'s send cell. -/
abbrev sendCell (c : Dev nD) : GSem nD τ sig := ((c : Thread nD τ), .dma sendS)
/-- Device `c`'s receive cell. -/
abbrev recvCell (c : Dev nD) : GSem nD τ sig := ((c : Thread nD τ), .dma recvS)

/-- The two scoped semaphores of the exchange. -/
abbrev scopedSem : Fin 2 → SemLoc sig := fun | 0 => .dma sendS | 1 => .dma recvS
/-- The three semaphores of the exchange. -/
abbrev anySem : Fin 3 → SemLoc sig := fun | 0 => .reg barS | 1 => .dma sendS | 2 => .dma recvS
/-- The cell of a device and one of its three semaphores. -/
abbrev anyCell (ck : Dev nD × Fin 3) : GSem nD τ sig := ((ck.1 : Thread nD τ), anySem ck.2)

/-- What one copy of eight columns pays. -/
abbrev N : ℕ := (landM : Memref sig .tc .vmem S256x8 .bf16).view.dmaCredit
/-- A copy pays something. -/
theorem N_pos : 0 < N := View.dmaCredit_pos _ (by decide)

/-- The send semaphore isn't the barrier's, -/
theorem send_ne_bar : (SemLoc.dma sendS : SemLoc sig) ≠ .reg barS := fun h => by cases h
/-- nor is the receive semaphore, -/
theorem recv_ne_bar : (SemLoc.dma recvS : SemLoc sig) ≠ .reg barS := fun h => by cases h
/-- and the two differ. -/
theorem send_ne_recv : (SemLoc.dma sendS : SemLoc sig) ≠ .dma recvS := by decide

/-! ## What the buffers hold -/

/-- The eight values a device finds in its block, as the kernel's text computes them. -/
def localTop (x : Vec F S256x1024 .bf16) : Vec F S256x8 .bf16 :=
  k0_pay73 (k0_pay48 (k0_pay19 x) (k0_pay23 x))
    (k0_pay56 (k0_pay19 x) (k0_pay20 x) (k0_pay21 x) (k0_pay23 x) (k0_pay24 x) (k0_pay25 x) (k0_pay27 x))
    (k0_pay63 (k0_pay19 x) (k0_pay20 x) (k0_pay21 x) (k0_pay23 x) (k0_pay24 x) (k0_pay25 x) (k0_pay27 x))
    (k0_pay66 (k0_pay19 x) (k0_pay20 x) (k0_pay21 x) (k0_pay22 x) (k0_pay23 x) (k0_pay24 x) (k0_pay25 x) (k0_pay26 x) (k0_pay27 x))
    (k0_pay67 (k0_pay19 x) (k0_pay20 x) (k0_pay21 x) (k0_pay22 x) (k0_pay23 x) (k0_pay24 x) (k0_pay25 x) (k0_pay26 x) (k0_pay27 x))
    (k0_pay68 (k0_pay19 x) (k0_pay20 x) (k0_pay21 x) (k0_pay22 x) (k0_pay23 x) (k0_pay24 x) (k0_pay25 x) (k0_pay26 x) (k0_pay27 x))
    (k0_pay69 (k0_pay19 x) (k0_pay20 x) (k0_pay21 x) (k0_pay22 x) (k0_pay23 x) (k0_pay24 x) (k0_pay25 x) (k0_pay26 x) (k0_pay27 x))
    (k0_pay70 (k0_pay19 x) (k0_pay20 x) (k0_pay21 x) (k0_pay22 x) (k0_pay23 x) (k0_pay24 x) (k0_pay25 x) (k0_pay26 x) (k0_pay27 x))
    (k0_pay71 (k0_pay19 x) (k0_pay20 x) (k0_pay21 x) (k0_pay22 x) (k0_pay23 x) (k0_pay24 x) (k0_pay25 x) (k0_pay26 x) (k0_pay27 x))
    (k0_pay72 (k0_pay19 x) (k0_pay20 x) (k0_pay21 x) (k0_pay22 x) (k0_pay23 x) (k0_pay24 x) (k0_pay25 x) (k0_pay26 x) (k0_pay27 x))

/-- The eight values of the sixteen two devices found, as the kernel's text computes them. -/
def merged (a b : Vec F S256x8 .bf16) : Vec F S256x8 .f32 :=
  k0_pay1 (k0_pay75 a b) (k0_pay77 a b) (k0_pay79 a b) (k0_pay81 a b) (k0_pay83 a b) (k0_pay85 a b) (k0_pay86 a b) (k0_pay87 a b) (k0_pay88 a b)

/-- The block of `x` staged on device `c`. -/
def xAt (c : Dev nD) : (cc0_stg0_0 : Ref sig .tc).ty.Contents (Elt F) :=
  (win0_0.blk (0 : Fin 1)).view.read (Elt F) ((s₀ m ρ).mem ((c : Thread nD τ).loc main_arg0))

/-- Device `c`'s own eight values. -/
def ownAt (c : Dev nD) : (cc0_scratch0 : Ref sig .tc).ty.Contents (Elt F) := localTop (xAt m ρ c)

/-- What lands on device `c`: its mate's eight values. -/
def landAt (c : Dev nD) : (cc0_scratch1 : Ref sig .tc).ty.Contents (Elt F) := localTop (xAt m ρ (mate c))

/-- Device `c`'s result. -/
def outAt (c : Dev nD) : (cc0_stg1_0 : Ref sig .tc).ty.Contents (Elt F) := merged (ownAt m ρ c) (landAt m ρ c)

/-- The own buffer of device `c`, whole, at contents `f`. -/
def ownPts (c : Dev nD) (f : Buf (Elt F) ((ownM : Memref sig .tc .vmem S256x8 .bf16).view.loc (c : Thread nD τ))) : sProp 𝕄 :=
  (ownM : Memref sig .tc .vmem S256x8 .bf16).view.loc (c : Thread nD τ) ↦[(ownM : Memref sig .tc .vmem S256x8 .bf16).view.set]{fullShare} f
/-- The landing buffer of device `c`, whole, at contents `f`. -/
def landPts (c : Dev nD) (f : Buf (Elt F) ((landM : Memref sig .tc .vmem S256x8 .bf16).view.loc (c : Thread nD τ))) : sProp 𝕄 :=
  (landM : Memref sig .tc .vmem S256x8 .bf16).view.loc (c : Thread nD τ) ↦[(landM : Memref sig .tc .vmem S256x8 .bf16).view.set]{fullShare} f

/-- The own buffer may be kept in an invariant. -/
instance ownPts_storable (c : Dev nD) (f) : BI.Storable (upEmb : UEmb _ 𝕄) (ownPts (F := F) c f) := by unfold ownPts; infer_instance
/-- So may the landing buffer. -/
instance landPts_storable (c : Dev nD) (f) : BI.Storable (upEmb : UEmb _ 𝕄) (landPts (F := F) c f) := by unfold landPts; infer_instance

/-- Holding the own buffer is its points-to. -/
theorem ownPts_eq (c : Dev nD) (f : Buf (Elt F) ((c : Thread nD τ).loc cc0_scratch0)) :
    ownPts c f = (((c : Thread nD τ).loc cc0_scratch0) ↦{fullShare} f : sProp 𝕄) := by
  unfold ownPts; rw [View.set_whole]
/-- Holding the landing buffer is its points-to. -/
theorem landPts_eq (c : Dev nD) (f : Buf (Elt F) ((c : Thread nD τ).loc cc0_scratch1)) :
    landPts c f = (((c : Thread nD τ).loc cc0_scratch1) ↦{fullShare} f : sProp 𝕄) := by
  unfold landPts; rw [View.set_whole]

/-- Copying the own buffer over a landing buffer leaves the own buffer's contents there. -/
theorem copied_eq (c : Dev nD) (fd : Buf (Elt F) ((landM : Memref sig .tc .vmem S256x8 .bf16).view.loc (c : Thread nD τ)))
    (fs : (cc0_scratch0 : Ref sig .tc).ty.Contents (Elt F)) :
    (landM : Memref sig .tc .vmem S256x8 .bf16).view.write (Elt F) fd ((ownM : Memref sig .tc .vmem S256x8 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What the mate's barrier signal hands to device `c`: the mate's landing buffer, and that the mate's receive cell is
    still in its first round. -/
def barPay (c : Dev nD) : sProp 𝕄 := iprop((∃ f, landPts (mate c) f) ∗ reached ER (recvCell (mate c)) 0)

/-- Whether a cell is one of the exchange. -/
abbrev Mine (g : GSem nD τ sig) : Prop := g.1.2 = .tc ∧ (g.2 = .reg barS ∨ g.2 = .dma sendS ∨ g.2 = .dma recvS)

/-- One round per cell, with one duty: a unit on the barrier cell, a copy's credit on the other two. The barrier's duty
    carries the mate's landing buffer, the send cell's gives the own buffer back, the receive cell's gives the landing
    buffer with the mate's values. -/
def sched : Rounds.Schedule (GSem nD τ sig) Unit 𝕄 where
  duties g r := if r = 0 ∧ Mine g then {()} else ∅
  unitless _ := False
  amount g _ _ := if g.2 = .reg barS then 1 else N
  payload g _ _ :=
    if g.2 = .reg barS then barPay g.1.1
    else if g.2 = .dma recvS then landPts g.1.1 (landAt m ρ g.1.1)
    else if g.2 = .dma sendS then ownPts g.1.1 (ownAt m ρ g.1.1)
    else iprop(emp)
  amount_pos g _ _ _ := by
    split
    · exact Nat.one_pos
    · exact N_pos

/-- Every payload may be kept in an invariant. -/
instance sched_storable (g : GSem nD τ sig) (r : ℕ) (d : Unit) :
    BI.Storable (upEmb : UEmb _ 𝕄) ((sched (F := F) m ρ).payload g r d) := by
  show BI.Storable upEmb (if g.2 = .reg barS then barPay g.1.1
    else if g.2 = .dma recvS then landPts g.1.1 (landAt m ρ g.1.1)
    else if g.2 = .dma sendS then ownPts g.1.1 (ownAt m ρ g.1.1) else iprop(emp))
  unfold barPay
  (repeat' split) <;> infer_instance

section Sched
variable (c : Dev nD)

/-- A cell of the exchange has its one duty in the first round, -/
theorem duties_first {g : GSem nD τ sig} (h : Mine g) : (sched (F := F) m ρ).duties g 0 = {()} := if_pos ⟨rfl, h⟩
/-- and none later. -/
theorem duties_later (g : GSem nD τ sig) : ∀ r, 1 ≤ r → (sched (F := F) m ρ).duties g r = ∅ :=
  fun r hr => if_neg fun h => by omega

/-- The barrier cell is one of the exchange, -/
theorem mine_bar : Mine (barCell c) := ⟨rfl, .inl rfl⟩
/-- so is the send cell, -/
theorem mine_send : Mine (sendCell c) := ⟨rfl, .inr (.inl rfl)⟩
/-- and so is the receive cell. -/
theorem mine_recv : Mine (recvCell c) := ⟨rfl, .inr (.inr rfl)⟩

/-- The barrier duty pays one unit, -/
theorem amount_bar (d : Unit) : (sched (F := F) m ρ).amount (barCell c) 0 d = 1 := by dsimp only [sched]; exact if_pos rfl
/-- the send duty a copy's credit, -/
theorem amount_send (d : Unit) : (sched (F := F) m ρ).amount (sendCell c) 0 d = N := by dsimp only [sched]; exact if_neg send_ne_bar
/-- and so does the receive duty. -/
theorem amount_recv (d : Unit) : (sched (F := F) m ρ).amount (recvCell c) 0 d = N := by dsimp only [sched]; exact if_neg recv_ne_bar

/-- A round expects what its one duty pays. -/
theorem expect_first {g : GSem nD τ sig} (h : Mine g) : (sched (F := F) m ρ).expect g 0 = (sched (F := F) m ρ).amount g 0 () := by
  unfold Schedule.expect Schedule.amountOf
  rw [duties_first m ρ h, Finset.sum_singleton]

/-- The barrier duty carries the mate's landing buffer, -/
theorem payload_bar (d : Unit) : (sched (F := F) m ρ).payload (barCell c) 0 d = barPay c := by dsimp only [sched]; rw [if_pos rfl]
/-- the receive duty the landing buffer with the mate's values, -/
theorem payload_recv (d : Unit) : (sched (F := F) m ρ).payload (recvCell c) 0 d = landPts c (landAt m ρ c) := by
  dsimp only [sched]; rw [if_neg recv_ne_bar, if_pos rfl]
/-- the send duty the own buffer. -/
theorem payload_send (d : Unit) : (sched (F := F) m ρ).payload (sendCell c) 0 d = ownPts c (ownAt m ρ c) := by
  dsimp only [sched]; rw [if_neg send_ne_bar, if_neg send_ne_recv, if_pos rfl]

/-- A round's payloads, none taken yet, are its one duty's. -/
theorem rest_first {g : GSem nD τ sig} (h : Mine g) :
    bigSep ((sched (F := F) m ρ).duties g 0 \ ∅) (fun d => (sched (F := F) m ρ).payload g 0 d) = (sched (F := F) m ρ).payload g 0 () := by
  rw [Finset.sdiff_empty, duties_first m ρ h, bigSep_singleton]

end Sched

/-! ## What is owed, and the levels -/

/-- What device `c` owes once it has signalled: a copy's credit on its mate's receive cell. -/
def O₁ (c : Dev nD) : CellTallies nD τ sig Unit := tallyAt (recvCell (mate c)) () N
/-- What it owes at the start: that and a unit on its mate's barrier cell. -/
def O₀ (c : Dev nD) : CellTallies nD τ sig Unit := O₁ c + tallyAt (barCell (mate c)) () 1

/-- The names used on a cell: one on a core's, none elsewhere. -/
def L (g : GSem nD τ sig) : Finset Unit := if g.1.2 = .tc then {()} else ∅
/-- The levels: barrier cells below receive cells, the others below both. -/
def lv (g : GSem nD τ sig) (_ : Unit) : ℕ := if g.2 = .reg barS then 1 else if g.2 = .dma recvS then 2 else 0

/-- Off the cores no name is used. -/
theorem L_of_ne (g : GSem nD τ sig) (h : g.1.2 ≠ .tc) : L g = ∅ := if_neg h
/-- On a core's cell the one name is used. -/
theorem mem_L (c : Dev nD) (sm : SemLoc sig) (u : Unit) : u ∈ L ((c : Thread nD τ), sm) := by
  rw [show L ((c : Thread nD τ), sm) = {()} from if_pos rfl]; exact Finset.mem_singleton_self _

/-- Barrier cells have level one, -/
theorem lv_bar (c : Dev nD) (u : Unit) : lv (barCell c) u = 1 := if_pos rfl
/-- receive cells level two. -/
theorem lv_recv (c : Dev nD) (u : Unit) : lv (recvCell c) u = 2 := (if_neg recv_ne_bar).trans (if_pos rfl)

/-- What is still owed after the signal lies on the mate's receive cell. -/
theorem O₁_pos {c : Dev nD} {g : GSem nD τ sig} {u : Unit} (h : 0 < O₁ c g u) : g = recvCell (mate c) := by
  unfold O₁ at h
  rw [tallyAt_apply] at h
  by_contra hn
  rw [if_neg fun h' => hn h'.1] at h
  exact Nat.lt_irrefl 0 h

/-- What is owed at the start lies on the mate's receive cell or its barrier cell. -/
theorem O₀_pos {c : Dev nD} {g : GSem nD τ sig} {u : Unit} (h : 0 < O₀ c g u) : g = recvCell (mate c) ∨ g = barCell (mate c) := by
  unfold O₀ at h
  rw [Pi.add_apply, Finsupp.add_apply] at h
  rcases Nat.eq_zero_or_pos (O₁ c g u) with h1 | h1
  · right
    rw [h1, tallyAt_apply, Nat.zero_add] at h
    by_contra hn
    rw [if_neg fun h' => hn h'.1] at h
    exact Nat.lt_irrefl 0 h
  · exact .inl (O₁_pos h1)

/-- A device may wait for its staging copies, whatever it owes. -/
theorem mayWait_stage (c : Dev nD) (q : DmaSem sig) (hq : SemLoc.dma q ≠ .dma recvS) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => mem_L c _ p.2) (fun g u hg => ?_) (fun p hp => ?_) (fun g u hg => ?_)
    · rcases O₀_pos hg with rfl | rfl <;> exact mem_L _ _ _
    · rw [Finset.mem_singleton.mp hp]
      exact le_of_eq ((if_neg fun h => by cases h).trans (if_neg hq))
    · rcases O₀_pos hg with rfl | rfl
      · rw [lv_recv]; decide
      · rw [lv_bar]; decide
  · rw [MayWait_zero]; iintro -; iempintro

/-- At its barrier wait a device owes its mate's receive cell only, which is above its own barrier cell. -/
theorem mayWait_bar (c : Dev nD) : (levAts L lv : sProp 𝕄) ⊢ MayWait (c : Thread nD τ) (.reg barS) () (O₁ c) := by
  refine MayOwe.of_cut (L := L) (lev := lv) 1 (fun p hp => mem_L c _ p.2) (fun g u hg => ?_) (fun p hp => ?_) (fun g u hg => ?_)
  · rw [O₁_pos hg]; exact mem_L _ _ _
  · rw [Finset.mem_singleton.mp hp]; exact le_of_eq (lv_bar c _)
  · rw [O₁_pos hg, lv_recv]; decide

end Cert.Exchange

end
-- ==== Proof.Body.lean ====
/-
One device's run of the kernel body.

From the exchange's ghost state, the two scratch buffers and the staged block of `x`, the body ends with the device's own
eight values, its mate's in the landing buffer, the result staged, and the three cells closed at zero.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts from and ends with -/

/-- The invariants device `c` opens, at the names `K`: its own three cells', and its mate's barrier and receive cells'. -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (mate c, 0)) (barCell (mate c)) ∗ cellInv ER (sched m ρ) (K (mate c, 2)) (recvCell (mate c)))

/-- The invariants may be used any number of times. -/
instance invs_persistent (K : Dev nD × Fin 3 → ℕ) (c : Dev nD) : BI.Persistent (invs m ρ K c) := by unfold invs; infer_instance

/-- The positions of device `c` on its own cells, all in the first round. -/
def positions (c : Dev nD) : sProp 𝕄 :=
  iprop(atPos ER (barCell c) 0 ∅ 0 ∗ atPos ER (sendCell c) 0 ∅ 0 ∗ atPos ER (recvCell c) 0 ∅ 0)

/-- That the cells device `c` pays, and its own receive cell, have reached the first round. -/
def marks (c : Dev nD) : sProp 𝕄 :=
  iprop(reached ER (barCell (mate c)) 0 ∗ reached ER (sendCell c) 0 ∗ reached ER (recvCell c) 0)

/-- So may the marks. -/
instance marks_persistent (c : Dev nD) : BI.Persistent (marks (F := F) c) := by unfold marks; infer_instance

/-- The duties device `c` pays: its mate's barrier duty, its mate's receive duty, its own send duty. -/
def payToks (c : Dev nD) : sProp 𝕄 :=
  iprop(dutyTok ER (barCell (mate c)) 0 () ∗ dutyTok ER (recvCell (mate c)) 0 () ∗ dutyTok ER (sendCell c) 0 ())

/-- The ghost state device `c` starts from. -/
def ghost (K : Dev nD × Fin 3 → ℕ) (c : Dev nD) : sProp 𝕄 :=
  iprop(invs m ρ K c ∗ marks c ∗ positions c ∗ payToks c)

/-- The credit device `c` holds at the start: a unit of its barrier cell's, a copy's of its receive cell's. -/
def credits (c : Dev nD) : sProp 𝕄 :=
  iprop(cred (tallyAt (barCell c) () 1) ∗ cred (tallyAt (recvCell c) () N))

/-- What device `c` starts from besides its buffers. -/
def start (c : Dev nD) : sProp 𝕄 := iprop((∃ K, ghost m ρ K c) ∗ credits c ∗ levAts L lv)

/-- Before the body: that, and the two scratch buffers at anything. -/
def Φ₀ (c : Dev nD) : sProp 𝕄 := iprop(start m ρ c ∗ (∃ f, ownPts c f) ∗ ∃ f, landPts c f)
/-- After the body: the two scratch buffers with the device's and its mate's values, the three cells at zero. -/
def Φ₁ (c : Dev nD) : sProp 𝕄 :=
  iprop(ownPts c (ownAt m ρ c) ∗ landPts c (landAt m ρ c) ∗ semVal (sendCell c) 0 ∗ semVal (recvCell c) 0 ∗ semVal (barCell c) 0)

/-- The proof data of the launch. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- No variant is needed: the body has no loop. -/
abbrev 𝒱₀ : Variants := Variants.none

/-- The block of `x` is fetched at every step. -/
theorem fetched (t : Fin cfg0.N) : (cfg0.win (0 : Fin 2)).fetch t = true := by rw [show t = t0_0 from fin_N0 t]; rfl

/-- Owning a whole buffer at contents `X` is the points-to of a buffer that holds `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Loads and stores of whole buffers -/

/-- The two offsets zero, as a constant function. -/
theorem zero2 : (![0, 0] : Fin 2 → Nat) = fun _ => 0 := funext fun a => by fin_cases a <;> rfl

/-- The rectangle of a whole buffer of eight columns. -/
abbrev all8 : Rect S256x8 := Rect.unit (s := S256x8) ![0, 0] S256x8.size inb_S256x8_S256x8_0_0

/-- Loading the whole staged block reads its contents. -/
theorem load_x (f : (cc0_stg0_0 : Ref sig .tc).ty.Contents (Elt F)) :
    (xM : Memref sig .tc .vmem S256x1024 .bf16).view.readAt (Elt F)
      (Rect.unit (s := S256x1024) ![0, 0] S256x1024.size inb_S256x1024_S256x1024_0_0).toLoadRect f = f :=
  Memref.readAt_unit_zero (Elt F) cc0_stg0_0 zero2 _ f
/-- Loading the whole own buffer reads its contents. -/
theorem load_own (f : (cc0_scratch0 : Ref sig .tc).ty.Contents (Elt F)) :
    (ownM : Memref sig .tc .vmem S256x8 .bf16).view.readAt (Elt F) all8.toLoadRect f = f :=
  Memref.readAt_unit_zero (Elt F) cc0_scratch0 zero2 _ f
/-- Loading the whole landing buffer reads its contents. -/
theorem load_land (f : (cc0_scratch1 : Ref sig .tc).ty.Contents (Elt F)) :
    (landM : Memref sig .tc .vmem S256x8 .bf16).view.readAt (Elt F) all8.toLoadRect f = f :=
  Memref.readAt_unit_zero (Elt F) cc0_scratch1 zero2 _ f
/-- Storing over the whole own buffer leaves what is stored. -/
theorem store_own (f w : (cc0_scratch0 : Ref sig .tc).ty.Contents (Elt F)) :
    ((ownM : Memref sig .tc .vmem S256x8 .bf16).access all8 : View sig .tc _ _ _).write (Elt F) f w Finset.univ = w :=
  Memref.write_access_unit_zero_univ (Elt F) cc0_scratch0 zero2 _ f w
/-- Storing over the whole staged result leaves what is stored. -/
theorem store_out (f w : (cc0_stg1_0 : Ref sig .tc).ty.Contents (Elt F)) :
    ((oM : Memref sig .tc .vmem S256x8 .f32).access all8 : View sig .tc _ _ _).write (Elt F) f w Finset.univ = w :=
  Memref.write_access_unit_zero_univ (Elt F) cc0_stg1_0 zero2 _ f w

section Body

variable (K : Dev nD × Fin 3 → ℕ)

/-- The copy to the mate, whatever term names the mate. -/
theorem wp_copy (c n : Dev nD) (hn : n = mate c) {hsc : (landM : Memref sig (Dev.tc n : Thread nD τ).2.kind .vmem S256x8 .bf16).view.ref.isScScratch = false}
    {hsrc : (ownM : Memref sig .tc .vmem S256x8 .bf16).view.WordExact} {hdst : (landM : Memref sig .tc .vmem S256x8 .bf16).view.WordExact}
    {hsem : DmaTarget.Typed .vmem (.dma recvS) (.remote (Dev.tc n : Thread nD τ) (landM : Memref sig .tc .vmem S256x8 .bf16) (.dma sendS) hsc)}
    {α : Type} {Q : α → sProp 𝕄} {k : PUnit → Prog (TpuEff nD τ sig (Elt F) Λ₀ .tc) α}
    (fn : Buf (Elt F) ((landM : Memref sig .tc .vmem S256x8 .bf16).view.loc (mate c : Thread nD τ))) (W : Waits sig Unit) :
    iprop(cellInv ER (sched m ρ) (K (c, 1)) (sendCell c) ∗ cellInv ER (sched m ρ) (K (mate c, 2)) (recvCell (mate c))
        ∗ ownPts c (ownAt m ρ c) ∗ landPts (mate c) fn ∗ owes (c : Thread nD τ) (O₁ c) W
        ∗ dutyTok ER (sendCell c) 0 () ∗ reached ER (sendCell c) 0 ∗ dutyTok ER (recvCell (mate c)) 0 () ∗ reached ER (recvCell (mate c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) landM (.dma sendS) hsc) (.dma recvS) hsrc hdst hsem) k) Q) := by
  subst hn
  unfold ownPts landPts
  exact Rounds.wp_send_pointsTo 𝒱₀ ER (sched m ρ) (c : Thread nD τ) none (κ₁ := K (c, 1)) (κ₂ := K (mate c, 2))
    (r₁ := 0) (r₂ := 0) (d₁ := ()) (d₂ := ()) (fd := fn)
    (by rw [duties_first m ρ (mine_send c)]; exact Finset.mem_singleton_self _) (by rw [duties_first m ρ (mine_recv (mate c))]; exact Finset.mem_singleton_self _)
    () () N rfl (amount_send m ρ c ()) (amount_recv m ρ (mate c) ()) 0 (by unfold O₁; rw [zero_add]) (W := W)
    (by rw [payload_send]; exact BI.Entails.refl _)
    (by rw [payload_recv]; unfold landPts; rw [copied_eq]; unfold landAt ownAt; rw [mate_mate])

/-- A staging buffer, whole, at given contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the names fixed. -/
def bodyPre (c : Dev nD) : sProp 𝕄 :=
  iprop((ghost m ρ K c ∗ credits c ∗ levAts L lv ∗ (∃ f, ownPts c f) ∗ ∃ f, landPts c f)
    ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

/-- What the body ends with. -/
def bodyPost (c : Dev nD) : sProp 𝕄 :=
  iprop(Φ₁ m ρ c ∗ (dats m ρ 0 c).owesAt () t0_0.succ ∗ staged c cc0_stg0_0 (xAt m ρ c) ∗ staged c cc0_stg1_0 (outAt m ρ c))

set_option maxHeartbeats 1600000 in
/-- The body on device `c`, operation by operation. -/
theorem body_run (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost invs marks positions payToks credits
  iintro ⟨⟨⟨⟨⟨#HIbar, #HIsnd, #HIrcv, #HIbarM, #HIrcvM⟩, ⟨#HrBM, #HrS, #HrV⟩, ⟨HatB, HatS, HatV⟩, HtBM, HtVM, HtS⟩, ⟨HcB, HcV⟩, #Hlev, ⟨%f0, Hown⟩, ⟨%f1, Hland⟩⟩,
    Ho, ⟨%d0, %g0, %hg0, Hx⟩, ⟨%d1, %g1, %hg1, Hout⟩⟩, Hk⟩
  have hx : g0 = xAt m ρ c := by rw [hg0]; unfold Dat.before; rw [if_pos (fetched t0_0)]; rfl
  subst hx
  unfold Dat.owesAt Pipeline.owesWithin
  icases Ho with ⟨%W, %hW, HO⟩
  rw [show (dats m ρ 0 c).owed t0_0.castSucc = O₀ c from rfl]
  simp only [signal_target c]
  -- the signal to the mate's barrier cell, with the own landing buffer
  iapply (Rounds.wp_signal 𝒱₀ ER (sched m ρ) (c : Thread nD τ) none (dst := (mate c : Thread nD τ)) (κ := K (mate c, 0))
      (d := ()) (by rw [duties_first m ρ (mine_bar (mate c))]; exact Finset.mem_singleton_self _) ((amount_bar m ρ (mate c) ()).trans (by decide)) () (O₁ c) rfl)
    $$ [HO HtBM Hland]
  · isplitr; · iexact HIbarM
    isplitl [HO]; · iexact HO
    isplitl [HtBM]; · iexact HtBM
    isplitl [Hland]
    · rw [payload_bar]; unfold barPay; rw [mate_mate]
      isplitl [Hland]; · iexists f1; iexact Hland
      iexact HrV
    iexact HrBM
  iintro HO
  -- the block of `x` is read, the own eight values written
  iapply (wp_load 𝒱₀ (c : Thread nD τ) none Set.univ (m := xM) (Finset.subset_univ _)) $$ Hx; iintro Hx
  rw [load_x]
  unfold ownPts
  iapply (wp_load 𝒱₀ (c : Thread nD τ) none Set.univ (m := ownM) (by rw [View.set_whole]; exact Finset.subset_univ _)) $$ Hown; iintro Hown
  iapply (wp_store 𝒱₀ (c : Thread nD τ) none Set.univ (m := ownM) (r := all8) (Mk := Finset.univ) (by rw [View.set_whole]; exact Finset.subset_univ _)) $$ Hown; iintro Hown
  rw [store_own]
  -- the wait for the mate's signal, which brings the mate's landing buffer
  iapply (Rounds.wp_wait_rest_token 𝒱₀ ER (sched m ρ) (c : Thread nD τ) none (κ := K (c, 0))
      (wpE_semWait_eq 𝒱₀ (c : Thread nD τ) none Set.univ) (Set.mem_univ _) () (O := O₁ c) (W := W) (R := 0) (m := 0) (T := ∅)
      (by rw [expect_first m ρ (mine_bar c), amount_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_first m ρ (mine_bar c)).trans (payload_bar m ρ c ()))) $$ Hpay
  unfold barPay
  icases Hp with ⟨⟨%fn, HlandM⟩, #HrVM⟩
  -- the copy to the mate
  iapply (wp_copy m ρ K c _ (copy_target c) fn (insert (SemLoc.reg barS, ()) W)) $$ [Hown HlandM HO HtS HtVM]
  · isplitr; · iexact HIsnd
    isplitr; · iexact HIrcvM
    isplitl [Hown]; · unfold ownPts ownAt localTop; iexact Hown
    isplitl [HlandM]; · iexact HlandM
    isplitl [HO]; · iexact HO
    isplitl [HtS]; · iexact HtS
    isplitr; · iexact HrS
    isplitl [HtVM]; · iexact HtVM
    iexact HrVM
  iintro ⟨HcS, HO⟩
  -- the wait for the copy sent: the own buffer is back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_first m ρ (mine_send c), amount_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hown := (Entails.of_eq ((rest_first m ρ (mine_send c)).trans (payload_send m ρ c ()))) $$ Hpay
  -- the wait for the copy received: the landing buffer holds the mate's values
  iapply (Rounds.wp_wait_rest_token 𝒱₀ ER (sched m ρ) (c : Thread nD τ) none (κ := K (c, 2))
      (wpE_waitDma2_eq 𝒱₀ (c : Thread nD τ) none Set.univ) (Set.mem_univ _) () (O := 0)
      (W := insert (SemLoc.dma sendS, ()) (insert (SemLoc.reg barS, ()) W)) (R := 0) (m := 0) (T := ∅)
      (by rw [Nat.zero_add, expect_first m ρ (mine_recv c), amount_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hland := (Entails.of_eq ((rest_first m ρ (mine_recv c)).trans (payload_recv m ρ c ()))) $$ Hpay
  -- the three cells are closed
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  imod (Rounds.cell_close ER (sched m ρ) (Set.mem_univ (K (c, 0))) (fun h => h) (R := 0 + 1) (duties_later m ρ (barCell c))) $$ [HatB] with HzB
  · isplitr; · iexact HIbar
    iexact HatB
  -- both buffers are read, the result is written
  unfold ownPts landPts
  iapply (wp_load 𝒱₀ (c : Thread nD τ) none Set.univ (m := ownM) (by rw [View.set_whole]; exact Finset.subset_univ _)) $$ Hown; iintro Hown
  rw [load_own]
  iapply (wp_load 𝒱₀ (c : Thread nD τ) none Set.univ (m := landM) (by rw [View.set_whole]; exact Finset.subset_univ _)) $$ Hland; iintro Hland
  rw [load_land]
  iapply (wp_load 𝒱₀ (c : Thread nD τ) none Set.univ (m := oM) (Finset.subset_univ _)) $$ Hout; iintro Hout
  iapply (wp_store 𝒱₀ (c : Thread nD τ) none Set.univ (m := oM) (r := all8) (Mk := Finset.univ) (Finset.subset_univ _)) $$ Hout; iintro Hout
  rw [store_out, wp_ret]; imodintro
  iapply Hk
  unfold bodyPost Φ₁ Dat.owesAt Pipeline.owesWithin
  rw [show (dats m ρ 0 c).owed t0_0.succ = 0 from rfl]
  isplitl [Hown Hland HzS HzV HzB]
  · isplitl [Hown]; · unfold ownPts; iexact Hown
    isplitl [Hland]; · unfold landPts; iexact Hland
    isplitl [HzS]; · iexact HzS
    isplitl [HzV] <;> iassumption
  isplitl [HO]
  · iexists (insert (SemLoc.dma recvS, ()) (insert (SemLoc.dma sendS, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

/-- What the pipeline hands the body. -/
def bodyPre' (c : Dev nD) : sProp 𝕄 :=
  iprop(Φ₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

set_option maxRecDepth 4000 in
/-- The obligation the pipeline has on the body. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hc, Hl⟩, Hown, Hland⟩, Ho, Hx, Hout⟩
  iapply (body_run m ρ K c fun _ => bodyPost m ρ c)
  unfold bodyPre
  isplitr []
  · isplitl [Hg Hc Hl Hown Hland]
    · isplitl [Hg]; · iexact Hg
      isplitl [Hc]; · iexact Hc
      isplitl [Hl]; · iexact Hl
      isplitl [Hown] <;> iassumption
    isplitl [Ho]; · iexact Ho
    isplitl [Hx] <;> iassumption
  · iintro H; iexact H

end Body

end Cert.Exchange

end
-- ==== Proof.Run.lean ====
/-
The run of the whole mesh.

The invariants of all the exchange's cells are allocated at once, because a device's barrier and receive cells are paid
by its mate; then each device has what its body starts from, and the launch theorem gives the run: it terminates, the
arrays end at computed contents, and every counter ends at zero.
-/
module

public import proofs.«01_k».proof.Proof.Body
public import Idealize.ShloMosaic.Lib.Quiescent
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The exchange's part of the launch element -/

/-- The scoped semaphores are the kernel's own. -/
theorem scopedSem_facts : Pipeline.OwnSemFacts cfg0.spec scopedSem := by decide

/-- Every window is held whole. -/
theorem share_full (c : Dev nD) (w : Fin cfg0.W) : (dats m ρ 0 c).share w = fullShare := by unfold Pipeline.Dat.share; split <;> rfl

/-- The three semaphores differ. -/
theorem anySem_injective : Function.Injective anySem := by
  intro k k' h
  fin_cases k <;> fin_cases k' <;> first | rfl | exact absurd h (by decide)

/-- So do the cells of all devices, -/
theorem anyCell_injective : Function.Injective (anyCell : Dev nD × Fin 3 → GSem nD τ sig) := by
  rintro ⟨c, k⟩ ⟨c', k'⟩ h
  have hc : c = c' := congrArg (fun g : GSem nD τ sig => g.1.1) h
  have hk : k = k' := anySem_injective (congrArg Prod.snd h)
  rw [hc, hk]

/-- All the cells of the exchange. -/
def allCells : Finset (GSem nD τ sig) := Finset.univ.map ⟨anyCell, anyCell_injective⟩

/-- and their duties. -/
theorem tok_injective : Function.Injective (fun ck : Dev nD × Fin 3 => ((anyCell ck, 0, ()) : GSem nD τ sig × ℕ × Unit)) :=
  fun _ _ h => anyCell_injective (congrArg Prod.fst h)

/-- The duty of each cell's one round. -/
def allToks : Finset (GSem nD τ sig × ℕ × Unit) := Finset.univ.map ⟨_, tok_injective⟩

/-- The element the launch starts from: the pipeline's part and the exchange's. -/
def u₀ : UU := (initOf (Pipeline.cells cfgs cellOf_inj) (Pipeline.launchToks cfgs cellOf_inj), initOf allCells allToks)

/-- What that element gives device `c`: for each of its three cells the round's state, its position and mark, and its duty. -/
def G (c : Dev nD) : sProp 𝕄 :=
  iprop((bigSep Finset.univ fun k : Fin 3 => roundState ER (sched m ρ) (anyCell (c, k)) 0)
    ∗ (bigSep Finset.univ fun k : Fin 3 => atPos ER (anyCell (c, k)) 0 ∅ 0)
    ∗ (bigSep Finset.univ fun k : Fin 3 => reached ER (anyCell (c, k)) 0)
    ∗ bigSep Finset.univ fun k : Fin 3 => dutyTok ER (anyCell (c, k)) 0 ())

/-- What the allocation of all invariants makes of it. -/
def G' (c : Dev nD) : sProp 𝕄 := iprop(∃ K, ghost m ρ K c)

/-- A conjunction over three is the conjunction of the three. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- The exchange's part of the launch element, dealt to the devices. -/
theorem deal : BI.own (ER (initOf allCells allToks)) ⊢ (|==> bigSep Finset.univ (G m ρ) : sProp 𝕄) := by
  have hC (Φ : GSem nD τ sig → sProp 𝕄) : bigSep allCells Φ = bigSep Finset.univ fun c : Dev nD => bigSep Finset.univ fun k : Fin 3 => Φ (anyCell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Fin 3 => dutyTok ER (anyCell (c, k)) 0 () := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hC fun g => roundState ER (sched m ρ) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## Allocating the invariants -/

/-- The scoped semaphores are the send and receive cells; -/
theorem scoped_eq (c : Dev nD) : (Pipeline.ownSems0 (Ix := Unit) (Name := ℕ) (U := UU) (Lvl := ℕ) (Val := Elt F) (τ := τ) scopedSem c : sProp 𝕄)
    = iprop(semVal (sendCell c) 0 ∗ semVal (recvCell c) 0) := by
  rw [Pipeline.ownSems0_eq_of_list c scopedSem [0, 1] (by decide) (by decide)]; rfl
/-- the unscoped one is the barrier cell. -/
theorem unscoped_eq (c : Dev nD) : (unscopedSems0 c : sProp 𝕄) = semVal (barCell c) 0 := by
  unfold unscopedSems0; rw [bigSep_eq_bigSepL_of_eq [SemLoc.reg barS] (by decide) (by decide)]; rfl

/-- One device's three invariants, from its counters at zero and its rounds' states. -/
theorem alloc_one (c : Dev nD) :
    iprop(Pipeline.ownSems0 (Ix := Unit) (Name := ℕ) (U := UU) (Lvl := ℕ) (Val := Elt F) (τ := τ) scopedSem c ∗ unscopedSems0 c ∗ G m ρ c)
      ⊢ |={Set.univ}=> iprop((bigSep Finset.univ fun k => iprop(∃ κ : ℕ, cellInv ER (sched m ρ) κ (anyCell (c, k))))
          ∗ (bigSep Finset.univ fun k => atPos ER (anyCell (c, k)) 0 ∅ 0)
          ∗ (bigSep Finset.univ fun k => reached ER (anyCell (c, k)) 0)
          ∗ bigSep Finset.univ fun k => dutyTok ER (anyCell (c, k)) 0 ()) := by
  have halloc : iprop((bigSep Finset.univ fun k : Fin 3 => semVal (anyCell (c, k)) 0) ∗ bigSep Finset.univ fun k : Fin 3 => roundState ER (sched m ρ) (anyCell (c, k)) 0)
      ⊢ (|={Set.univ}=> bigSep Finset.univ fun k => iprop(∃ κ : ℕ, cellInv ER (sched m ρ) κ (anyCell (c, k))) : sProp 𝕄) := by
    rw [← bigSep_sep']
    exact (bigSep_mono fun k _ => (Rounds.body_intro ER (sched m ρ) (anyCell (c, k))).trans inv_alloc).trans (bigSep_fupd _ _)
  rw [scoped_eq, unscoped_eq]
  unfold G
  iintro ⟨⟨HS, HV⟩, HB, Hst, Hrest⟩
  imod halloc $$ [HS HV HB Hst] with Hinv
  · isplitl [HS HV HB]
    · rw [bigSep_three]
      isplitl [HB]; · iexact HB
      isplitl [HS] <;> iassumption
    iexact Hst
  imodintro
  isplitl [Hinv] <;> iassumption

/-- The facts every device may use: all invariants, at the names `K`, and all marks. -/
def common (K : Dev nD × Fin 3 → ℕ) : sProp 𝕄 :=
  iprop((bigSep Finset.univ fun ck : Dev nD × Fin 3 => cellInv ER (sched m ρ) (K ck) (anyCell ck))
    ∗ bigSep Finset.univ fun ck : Dev nD × Fin 3 => reached ER (anyCell ck) 0)

/-- The common facts may be used any number of times. -/
instance common_persistent (K : Dev nD × Fin 3 → ℕ) : BI.Persistent (common m ρ K) := by unfold common; infer_instance

/-- One cell's invariant and mark among them. -/
theorem common_at (K : Dev nD × Fin 3 → ℕ) (ck : Dev nD × Fin 3) :
    common m ρ K ⊢ iprop(cellInv ER (sched m ρ) (K ck) (anyCell ck) ∗ reached ER (anyCell ck) 0) := by
  exact BI.sep_mono (bigSep_elim (Φ := fun ck : Dev nD × Fin 3 => (cellInv ER (sched m ρ) (K ck) (anyCell ck) : sProp 𝕄)) (Finset.mem_univ ck))
    (bigSep_elim (Φ := fun ck : Dev nD × Fin 3 => (reached ER (anyCell ck) 0 : sProp 𝕄)) (Finset.mem_univ ck))

/-- From those facts, its positions and the duties it pays, device `c` has what it starts from. -/
theorem ghost_of (K : Dev nD × Fin 3 → ℕ) (c : Dev nD) : iprop(common m ρ K ∗ positions c ∗ payToks c) ⊢ G' m ρ c := by
  unfold G' ghost invs marks
  iintro ⟨#HC, Hpos, Htok⟩
  ihave H0 := (common_at m ρ K (c, 0)) $$ HC
  icases H0 with ⟨#I0, -⟩
  ihave H1 := (common_at m ρ K (c, 1)) $$ HC
  icases H1 with ⟨#I1, #R1⟩
  ihave H2 := (common_at m ρ K (c, 2)) $$ HC
  icases H2 with ⟨#I2, #R2⟩
  ihave H3 := (common_at m ρ K (mate c, 0)) $$ HC
  icases H3 with ⟨#I3, #R3⟩
  ihave H4 := (common_at m ρ K (mate c, 2)) $$ HC
  icases H4 with ⟨#I4, -⟩
  iexists K
  isplitr
  · isplitr; · iexact I0
    isplitr; · iexact I1
    isplitr; · iexact I2
    isplitr; · iexact I3
    iexact I4
  isplitr
  · isplitr; · iexact R3
    isplitr; · iexact R1
    iexact R2
  isplitl [Hpos] <;> iassumption

/-- The barrier and receive duties change hands within each pair. -/
theorem toks_swap : (bigSep Finset.univ fun c : Dev nD => bigSep Finset.univ fun k : Fin 3 => (dutyTok ER (anyCell (c, k)) 0 () : sProp 𝕄))
    ⊢ bigSep Finset.univ fun c : Dev nD => payToks c := by
  simp only [bigSep_three]
  unfold payToks
  rw [bigSep_sep', bigSep_sep', bigSep_sep', bigSep_sep',
    bigSep_univ_equiv pairing (fun c : Dev nD => (dutyTok ER (anyCell (c, 0)) 0 () : sProp 𝕄)),
    bigSep_univ_equiv pairing (fun c : Dev nD => (dutyTok ER (anyCell (c, 2)) 0 () : sProp 𝕄))]
  iintro ⟨HB, HS, HV⟩
  isplitl [HB]; · iexact HB
  isplitl [HV]; · iexact HV
  iexact HS

/-- A duplicable fact may be used once for every index. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants allocated, every device has what it starts from. -/
theorem regroup :
    (bigSep Finset.univ fun c : Dev nD => iprop((bigSep Finset.univ fun k => iprop(∃ κ : ℕ, cellInv ER (sched m ρ) κ (anyCell (c, k))))
          ∗ (bigSep Finset.univ fun k => atPos ER (anyCell (c, k)) 0 ∅ 0)
          ∗ (bigSep Finset.univ fun k => reached ER (anyCell (c, k)) 0)
          ∗ bigSep Finset.univ fun k => dutyTok ER (anyCell (c, k)) 0 ()) : sProp 𝕄)
      ⊢ bigSep Finset.univ (G' m ρ) := by
  rw [bigSep_sep', bigSep_sep', bigSep_sep', ← bigSep_univ_prod (fun ck : Dev nD × Fin 3 => iprop(∃ κ : ℕ, cellInv ER (sched m ρ) κ (anyCell ck))),
    ← bigSep_univ_prod (fun ck : Dev nD × Fin 3 => (reached ER (anyCell ck) 0 : sProp 𝕄))]
  iintro ⟨HI, Hat, #HR, Htok⟩
  ihave HK := (BI.bigSep_exists_pi Finset.univ (fun (ck : Dev nD × Fin 3) (κ : ℕ) => (cellInv ER (sched m ρ) κ (anyCell ck) : sProp 𝕄))) $$ HI
  icases HK with ⟨%K, #HI⟩
  ihave Htk := (toks_swap (F := F)) $$ Htok
  iapply (bigSep_using (R := common m ρ K) (Φ := fun c : Dev nD => iprop(positions c ∗ payToks c)) fun c _ => ghost_of m ρ K c)
  isplitr
  · unfold common; isplitl; · iexact HI
    iexact HR
  · rw [bigSep_sep']
    isplitl [Hat]
    · simp only [bigSep_three]; unfold positions; iexact Hat
    · iexact Htk

/-- The step over all devices: every semaphore, scoped or not, goes under its invariant. -/
theorem alloc_all : (bigSep Finset.univ fun c => iprop(Pipeline.ownSems0 (Ix := Unit) (Name := ℕ) (U := UU) (Lvl := ℕ) (Val := Elt F) (τ := τ) scopedSem c ∗ unscopedSems0 c ∗ G m ρ c) : sProp 𝕄)
    ⊢ |={Set.univ}=> bigSep Finset.univ (G' m ρ) :=
  ((bigSep_mono fun c _ => alloc_one m ρ c).trans (bigSep_fupd _ _)).trans (BI.fupd_mono (regroup m ρ))

/-! ## The credit at the start -/

/-- Cells of one kind on two devices are one cell only if the devices are one. -/
theorem cell_inj {sm : SemLoc sig} {a b : Dev nD} (h : (((a : Thread nD τ), sm) : GSem nD τ sig) = ((b : Thread nD τ), sm)) : a = b :=
  congrArg (fun g : GSem nD τ sig => g.1.1) h

/-- A tally on the mate's cell, read at a device's cell. -/
theorem tally_mate (sm : SemLoc sig) (n : ℕ) (d c : Dev nD) :
    (tallyAt (((mate d : Dev nD) : Thread nD τ), sm) () n : CellTallies nD τ sig Unit) ((c : Thread nD τ), sm) () = if d = mate c then n else 0 := by
  rw [tallyAt_apply]
  by_cases h : d = mate c
  · subst h; rw [mate_mate, if_pos ⟨rfl, rfl⟩, if_pos rfl]
  · rw [if_neg h, if_neg fun h' => h (by rw [cell_inj h'.1, mate_mate])]

/-- What device `d` owes device `c`'s barrier cell. -/
theorem owed_bar (d c : Dev nD) : O₀ d (barCell c) () = if d = mate c then 1 else 0 := by
  unfold O₀ O₁
  rw [Pi.add_apply, Finsupp.add_apply, tallyAt_ne_cell (fun h => recv_ne_bar (congrArg Prod.snd h).symm), Finsupp.zero_apply, Nat.zero_add]
  exact tally_mate _ 1 d c
/-- What device `d` owes device `c`'s receive cell. -/
theorem owed_recv (d c : Dev nD) : O₀ d (recvCell c) () = if d = mate c then N else 0 := by
  unfold O₀ O₁
  rw [Pi.add_apply, Finsupp.add_apply, tallyAt_ne_cell (g := barCell (mate d)) (fun h => recv_ne_bar (congrArg Prod.snd h)), Finsupp.zero_apply, Nat.add_zero]
  exact tally_mate _ N d c

/-- A cell that exactly the mate owes `n` gets credit `n`. -/
theorem credit_of_owed (g : GSem nD τ sig) (c : Dev nD) (n : ℕ) (h : ∀ d, O₀ d g () = if d = mate c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

/-- Device `c`'s launch credit holds a unit on its barrier cell and a copy's credit on its receive cell. -/
theorem credits_of (c : Dev nD) : (Pipeline.launchCred O₀ c : sProp 𝕄) ⊢ credits c := by
  unfold Pipeline.launchCred credits
  rw [bigSep_univ_at _ (SemLoc.reg barS), credit_of_owed _ c 1 fun d => owed_bar d c]
  refine sep_mono_right ?_
  rw [← credit_of_owed _ c N fun d => owed_recv d c]
  exact bigSep_elim (Finset.mem_erase.mpr ⟨recv_ne_bar, Finset.mem_univ _⟩)

/-! ## The launch theorem's side conditions -/

/-- From what the launch gives device `c`, what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_of (F := F) c) $$ Hcr
  imodintro
  unfold start G'
  isplitl
  · isplitl [HG]; · iexact HG
    isplitl [Hc] <;> iassumption
  · iempintro

/-- What a device starts with and its scoped buffers are what the body starts from. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩, ⟨%g, Hg⟩⟩
  isplitl [Hs]; · iexact Hs
  isplitl [Hf]
  · iexists f; rw [ownPts_eq]; iexact Hf
  · iexists g; rw [landPts_eq]; iexact Hg

/-- What the body ends with gives the counters back at zero, and the scoped buffers. -/
theorem leave (c : Dev nD) :
    (dats m ρ 0 c).Φ (Fin.last cfg0.N) ⊢ iprop(unscopedSems0 c ∗ Pipeline.ownSems0 scopedSem c ∗ Pipeline.scopedRest cfg0.spec c) := by
  rw [show (dats m ρ 0 c).Φ (Fin.last cfg0.N) = Φ₁ m ρ c from rfl, scopedRest0_eq, scoped_eq, unscoped_eq]
  unfold Φ₁
  iintro ⟨Ho, Hl, HzS, HzV, HzB⟩
  isplitl [HzB]; · iexact HzB
  isplitl [HzS HzV]
  · isplitl [HzS] <;> iassumption
  isplitl [Ho]
  · iexists (ownAt m ρ c); rw [← ownPts_eq]; iexact Ho
  · iexists (landAt m ρ c); rw [← landPts_eq]; iexact Hl

/-- The pipeline's own waits lie below everything owed. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

set_option maxRecDepth 8000 in
/-- From any memory with all counters at zero, every fair execution on the sixteen devices terminates without a fault,
    every device's two arrays end at the computed contents, and every counter ends at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ scopedSem_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := alloc_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` ends as it began. -/
theorem finalA_x (c : Dev nD) : finalA m ρ c (0 : Fin 2) = m ((c : Thread nD τ).loc main_arg0) :=
  (dats (F := F) m ρ 0 c).arrAt_in (0 : Fin 2) rfl _

/-- The result array ends at the device's result. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

/-- The staged block of `x` is the device's whole array. -/
theorem xAt_eq (c : Dev nD) : xAt m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result of device `c`, from the arrays of `x` on it and on its mate. -/
theorem outAt_eq (c : Dev nD) :
    outAt m ρ c = merged (localTop (m ((c : Thread nD τ).loc main_arg0))) (localTop (m ((mate c : Thread nD τ).loc main_arg0))) := by
  unfold outAt ownAt landAt; rw [xAt_eq, xAt_eq]

/-- The run, read at the two arrays: the result is what the text computes from the two blocks, `x` is unchanged, all
    counters are zero. -/
theorem run_values : θ_run defs (onTc (τ := τ) (main (F := F))) ⟨m, fun _ => 0, ρ⟩
    (fun r => (∀ c : Dev nD, r.2.mem ((c : Thread nD τ).loc main_v1)
          = merged (localTop (m ((c : Thread nD τ).loc main_arg0))) (localTop (m ((mate c : Thread nD τ).loc main_arg0)))
        ∧ r.2.mem ((c : Thread nD τ).loc main_arg0) = m ((c : Thread nD τ).loc main_arg0)) ∧ r.2.sem = fun _ => 0) :=
  (θ_run defs _ _).mono (fun _ h => ⟨fun c => ⟨((h.1 c (1 : Fin 2)).trans (finalA_out m ρ c)).trans (outAt_eq m ρ c),
    (h.1 c (0 : Fin 2)).trans (finalA_x m ρ c)⟩, h.2⟩) (run_main m ρ)

end Cert.Exchange

end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import Idealize.ShloMosaic.Lib.Quiescent

@[expose] public section

noncomputable section

namespace Cert.Exchange

open Idealize.ShloMosaic Idealize.ShloMosaic.TcCoe
open Idealize.SL.Sem

/-- At bits a named constant is the value its bits denote. -/
local instance namedBits : Named Bits where
  named _ _ {φ} b := Scalar.ofBits φ b

/-- At bits every run of the idealized text ends with the argument unchanged and every counter at zero. -/
theorem bits_run (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run (Cert.KernelIdeal.defs (F := Bits)) _ _).mono (fun _ h => ⟨fun c => (h.1 c).2, h.2⟩) (run_values (F := Bits) m g)

set_option maxRecDepth 100000 in
/-- The two programs' kernels agree at bits. -/
theorem body_table_eq :
    @Cert.Kernel.defs₀ Bits _ Cert.Kernel.Gen.facts = @Cert.KernelIdeal.defs₀ Bits _ _ Cert.KernelIdeal.Gen.facts := by
  funext p
  cases p with
  | tc =>
    funext ℓ
    match ℓ with
    | ⟨0, _⟩ => rfl
  | scScalar _ => rfl
  | scVector _ _ => rfl

set_option maxRecDepth 100000 in
theorem defs_eq :
    @Cert.Kernel.defs Bits _ Cert.Kernel.Gen.facts = @Cert.KernelIdeal.defs Bits _ _ Cert.KernelIdeal.Gen.facts :=
  congrArg (Pipeline.defs (Cert.KernelIdeal.pcfgs (F := Bits))) body_table_eq

set_option maxRecDepth 100000 in
/-- The frame of the kernel as printed. -/
theorem kernel_frame : Cert.quiescent_Kernel (hKernel := Cert.Kernel.Gen.facts) := by
  intro m g _
  rw [defs_eq]
  exact bits_run m g

/-- The frame of the idealized kernel. -/
theorem kernelIdeal_frame : Cert.quiescent_KernelIdeal (hKernelIdeal := Cert.KernelIdeal.Gen.facts) := by
  intro m g _
  exact (θ_run (Cert.KernelIdeal.defs (F := Ideal)) _ _).mono (fun _ h => ⟨fun c => (h.1 c).2, h.2⟩) (run_values (F := Ideal) m g)

/-- The frame of the idealized reference, which has no semaphores. -/
theorem referenceIdeal_frame : Cert.quiescent_ReferenceIdeal (hReferenceIdeal := Cert.ReferenceIdeal.Gen.facts) := by
  intro m g _
  letI := Cert.ReferenceIdeal.Gen.facts
  exact (θ_run (Cert.ReferenceIdeal.defs (F := Ideal)) _ _).mono
    (fun r h => ⟨fun c => (h c).2, sem_eq_zero_of_no_sems rfl r.2⟩) (Cert.ReferenceIdeal.Value.run (F := Ideal) m g)

/-- The one rewrite of the idealization: the constant named `lowest` stands for `-∞`. -/
theorem lowest_preserves : Cert.preserves_Kernel_KernelIdeal :=
  IdealRules.named_const.statement _ _ _ _ _ rfl

end Cert.Exchange

end
-- ==== Proof.Network.lean ====
module

public import Mathlib.Order.Lattice
public import Mathlib.Data.Fintype.Perm
public import Mathlib.Data.Fin.VecNotation
public import Mathlib.Order.Fin.Basic
public import Mathlib.Tactic.FinCases

@[expose] public section

namespace Cert.Exchange

/-! ## The network of nineteen comparators on eight places -/

section network

variable {α β : Type} [LinearOrder α] [LinearOrder β]

/-- One comparator: the larger of the values at `i` and `j` goes to `i`, the smaller to `j`. -/
def comparator (p : Fin 8 × Fin 8) (a : Fin 8 → α) : Fin 8 → α :=
  fun k => if k = p.1 then max (a p.1) (a p.2) else if k = p.2 then min (a p.1) (a p.2) else a k

/-- The comparators in the order in which they are run. -/
def wires : List (Fin 8 × Fin 8) :=
  [(0, 1), (2, 3), (4, 5), (6, 7), (0, 2), (1, 3), (4, 6), (5, 7), (1, 2), (5, 6), (0, 4), (1, 5), (2, 6), (3, 7),
    (2, 4), (3, 5), (1, 2), (3, 4), (5, 6)]

/-- The eight values after the comparators of a list. -/
def runWires (l : List (Fin 8 × Fin 8)) (a : Fin 8 → α) : Fin 8 → α := l.foldl (fun b p => comparator p b) a

/-- A comparator leaves the eight values where they are or swaps two of them. -/
theorem comparator_perm (p : Fin 8 × Fin 8) (a : Fin 8 → α) : ∃ σ : Equiv.Perm (Fin 8), comparator p a = a ∘ σ := by
  obtain ⟨i, j⟩ := p
  rcases le_total (a j) (a i) with h | h
  · refine ⟨Equiv.refl _, funext fun k => ?_⟩
    simp only [comparator, Function.comp_apply, Equiv.refl_apply]
    split
    · rename_i hk; rw [hk, max_eq_left h]
    · split
      · rename_i hk; rw [hk, min_eq_right h]
      · rfl
  · refine ⟨Equiv.swap i j, funext fun k => ?_⟩
    simp only [comparator, Function.comp_apply]
    split
    · rename_i hk; rw [hk, Equiv.swap_apply_left, max_eq_right h]
    · split
      · rename_i hk; rw [hk, Equiv.swap_apply_right, min_eq_left h]
      · rename_i h1 h2; rw [Equiv.swap_apply_of_ne_of_ne h1 h2]

/-- Comparators rearrange the eight values. -/
theorem runWires_perm (l : List (Fin 8 × Fin 8)) (a : Fin 8 → α) : ∃ σ : Equiv.Perm (Fin 8), runWires l a = a ∘ σ := by
  induction l generalizing a with
  | nil => exact ⟨Equiv.refl _, rfl⟩
  | cons p l ih =>
    obtain ⟨σ, hσ⟩ := comparator_perm p a
    obtain ⟨τ, hτ⟩ := ih (comparator p a)
    exact ⟨τ.trans σ, by rw [show runWires (p :: l) a = runWires l (comparator p a) from rfl, hτ, hσ]; rfl⟩

/-- Comparators commute with a monotone map of the values. -/
theorem map_runWires (f : α → β) (hf : Monotone f) (l : List (Fin 8 × Fin 8)) (a : Fin 8 → α) :
    f ∘ runWires l a = runWires l (f ∘ a) := by
  induction l generalizing a with
  | nil => rfl
  | cons p l ih =>
    have hp : f ∘ comparator p a = comparator p (f ∘ a) := by
      funext k
      simp only [comparator, Function.comp_apply, apply_ite f, hf.map_max, hf.map_min]
    rw [show runWires (p :: l) a = runWires l (comparator p a) from rfl, ih, hp]; rfl

/-- On truth values the network orders every one of the 256 inputs, the true ones first. -/
theorem runWires_bool (b : Fin 8 → Bool) (i : Fin 7) : runWires wires b i.succ ≤ runWires wires b i.castSucc := by
  have key : ∀ b0 b1 b2 b3 b4 b5 b6 b7 : Bool, ∀ i : Fin 7,
      runWires wires ![b0, b1, b2, b3, b4, b5, b6, b7] i.succ ≤ runWires wires ![b0, b1, b2, b3, b4, b5, b6, b7] i.castSucc := by
    decide +kernel
  have hb : b = ![b 0, b 1, b 2, b 3, b 4, b 5, b 6, b 7] := by
    funext k; fin_cases k <;> rfl
  rw [hb]
  exact key _ _ _ _ _ _ _ _ i

/-- The network puts eight values in falling order. -/
theorem runWires_antitone (a : Fin 8 → α) : Antitone (runWires wires a) := by
  refine Fin.antitone_iff_succ_le.mpr fun i => not_lt.mp fun h => ?_
  have hf : Monotone fun x : α => decide (runWires wires a i.succ ≤ x) := fun x y hxy => by
    simp only [Bool.le_iff_imp, decide_eq_true_eq]
    exact fun hx => hx.trans hxy
  have hb := runWires_bool ((fun x : α => decide (runWires wires a i.succ ≤ x)) ∘ a) i
  rw [← map_runWires _ hf] at hb
  simp only [Function.comp_apply, le_refl, decide_true, Bool.le_iff_imp, decide_eq_true_eq, true_implies, forall_const] at hb
  exact absurd hb (not_le.mpr h)

/-- What the network leaves at each place, comparator by comparator. -/
theorem runWires_eq (a : Fin 8 → α) :
    let s27 := max (a 0) (a 1)
    let s28 := min (a 0) (a 1)
    let s29 := max (a 2) (a 3)
    let s30 := min (a 2) (a 3)
    let s31 := max (a 4) (a 5)
    let s32 := min (a 4) (a 5)
    let s33 := max (a 6) (a 7)
    let s34 := min (a 6) (a 7)
    let s35 := max s27 s29
    let s36 := min s27 s29
    let s37 := max s28 s30
    let s38 := min s28 s30
    let s39 := max s31 s33
    let s40 := min s31 s33
    let s41 := max s32 s34
    let s42 := min s32 s34
    let s43 := max s37 s36
    let s44 := min s37 s36
    let s45 := max s41 s40
    let s46 := min s41 s40
    let s47 := max s35 s39
    let s48 := min s35 s39
    let s49 := max s43 s45
    let s50 := min s43 s45
    let s51 := max s44 s46
    let s52 := min s44 s46
    let s53 := max s38 s42
    let s54 := min s38 s42
    let s55 := max s51 s48
    let s56 := min s51 s48
    let s57 := max s53 s50
    let s58 := min s53 s50
    let s59 := max s49 s55
    let s60 := min s49 s55
    let s61 := max s57 s56
    let s62 := min s57 s56
    let s63 := max s58 s52
    let s64 := min s58 s52
    runWires wires a = ![s47, s59, s60, s61, s62, s63, s64, s54] := by
  intros
  funext k
  fin_cases k <;> rfl

end network

end Cert.Exchange

end
-- ==== Proof.Select.lean ====
module

public import Mathlib.Data.Finset.Lattice.Fold
public import Mathlib.Data.Fintype.Prod
public import Mathlib.Data.Fintype.Card
public import Mathlib.Data.Fintype.BigOperators
public import Mathlib.Order.BoundedOrder.Basic

@[expose] public section

namespace Cert.Exchange

variable {α : Type} [LinearOrder α] [OrderBot α]

/-! ## Popping the heads of sorted columns -/

section pops

variable {Q : Type} [Fintype Q]

/-- Slot `j` of column `q` after `i` rounds. A round takes the largest of the heads (slot 0) and moves up by one slot
    every column whose head is that value. -/
def slots (col : Q → ℕ → α) : ℕ → ℕ → Q → α
  | 0, j, q => col q j
  | i + 1, j, q => if slots col i 0 q = Finset.univ.sup (slots col i 0) then slots col i (j + 1) q else slots col i j q

/-- The value that round `i` takes. -/
def popped (col : Q → ℕ → α) (i : ℕ) : α := Finset.univ.sup (slots col i 0)

/-- How far column `q` has moved up after `i` rounds. -/
def moved (col : Q → ℕ → α) : ℕ → Q → ℕ
  | 0, _ => 0
  | i + 1, q => if slots col i 0 q = popped col i then moved col i q + 1 else moved col i q

/-- A slot is the column read from where it has moved up to. -/
theorem slots_eq (col : Q → ℕ → α) (i j : ℕ) (q : Q) : slots col i j q = col q (moved col i q + j) := by
  induction i generalizing j with
  | zero => simp [slots, moved]
  | succ i ih =>
    show (if slots col i 0 q = popped col i then slots col i (j + 1) q else slots col i j q) = _
    simp only [moved]
    split
    · rw [ih]; congr 1; omega
    · rw [ih]

/-- A column moves up by at most one slot a round. -/
theorem moved_le (col : Q → ℕ → α) (i : ℕ) (q : Q) : moved col i q ≤ i := by
  induction i with
  | zero => exact le_refl _
  | succ i ih => simp only [moved]; split <;> omega

/-- A column never moves down. -/
theorem moved_le_succ (col : Q → ℕ → α) (i : ℕ) (q : Q) : moved col i q ≤ moved col (i + 1) q := by
  simp only [moved]; split <;> omega

/-- What a round takes is the head of some column. -/
theorem exists_head [Nonempty Q] (col : Q → ℕ → α) (i : ℕ) : ∃ q, popped col i = col q (moved col i q) := by
  obtain ⟨q, -, hq⟩ := Finset.exists_mem_eq_sup Finset.univ Finset.univ_nonempty (slots col i 0)
  exact ⟨q, hq.trans (slots_eq col i 0 q)⟩

/-- Let eight slots of every column fall, and let `v` stand in one of them with at most `k` of the slots' values above it.
    Then one of the rounds `0 … k` takes `v`. -/
theorem exists_popped_eq [Nonempty Q] (col : Q → ℕ → α) (hcol : ∀ q, Antitone (col q)) (hbot : ∀ q j, 8 ≤ j → col q j = ⊥)
    (q₀ : Q) (j₀ : ℕ) (k : ℕ)
    (hk : (Finset.univ.filter fun p : Q × Fin 8 => col q₀ j₀ < col p.1 p.2).card ≤ k) :
    ∃ i, i ≤ k ∧ popped col i = col q₀ j₀ := by
  by_contra hne
  push Not at hne
  have step : ∀ i, i ≤ k + 1 → (∀ q j, j < moved col i q → col q₀ j₀ < col q j)
      ∧ i ≤ (Finset.univ.filter fun p : Q × Fin 8 => p.2.val < moved col i p.1).card := by
    intro i
    induction i with
    | zero => exact fun _ => ⟨fun q j h => absurd h (Nat.not_lt_zero _), Nat.zero_le _⟩
    | succ i ih =>
      intro hi
      obtain ⟨h1, h2⟩ := ih (by omega)
      have hm : moved col i q₀ ≤ j₀ := not_lt.mp fun h => lt_irrefl _ (h1 q₀ j₀ h)
      have hle : col q₀ j₀ ≤ popped col i := by
        refine (hcol q₀ hm).trans ?_
        have := Finset.le_sup (f := slots col i 0) (Finset.mem_univ q₀)
        rwa [slots_eq] at this
      have hlt : col q₀ j₀ < popped col i := lt_of_le_of_ne hle (hne i (by omega)).symm
      refine ⟨fun q j hj => ?_, ?_⟩
      · simp only [moved] at hj
        split at hj
        · rename_i hh
          rcases Nat.lt_succ_iff_lt_or_eq.mp hj with h | h
          · exact h1 q j h
          · rw [slots_eq, Nat.add_zero] at hh
            rw [h, hh]; exact hlt
        · exact h1 q j hj
      · obtain ⟨q, hq⟩ := exists_head col i
        have h8 : moved col i q < 8 := by
          by_contra h
          rw [hq, hbot q _ (not_lt.mp h)] at hlt
          exact absurd hlt not_lt_bot
        refine Nat.succ_le_of_lt (lt_of_le_of_lt h2 (Finset.card_lt_card ?_))
        refine Finset.ssubset_iff_of_subset (fun p hp => ?_) |>.mpr ⟨(q, ⟨moved col i q, h8⟩), ?_, ?_⟩
        · have hp' : p.2.val < moved col i p.1 := (Finset.mem_filter.mp hp).2
          exact Finset.mem_filter.mpr ⟨Finset.mem_univ _, hp'.trans_le (moved_le_succ col i p.1)⟩
        · refine Finset.mem_filter.mpr ⟨Finset.mem_univ _, ?_⟩
          show moved col i q < if slots col i 0 q = popped col i then moved col i q + 1 else moved col i q
          rw [if_pos (by rw [slots_eq, Nat.add_zero, hq])]
          exact Nat.lt_succ_self _
        · exact fun hp => lt_irrefl _ (Finset.mem_filter.mp hp).2
  obtain ⟨h1, h2⟩ := step (k + 1) (le_refl _)
  have hsub : (Finset.univ.filter fun p : Q × Fin 8 => p.2.val < moved col (k + 1) p.1)
      ⊆ Finset.univ.filter fun p : Q × Fin 8 => col q₀ j₀ < col p.1 p.2 := fun p hp => by
    simp only [Finset.mem_filter, Finset.mem_univ, true_and] at hp ⊢
    exact h1 _ _ hp
  have := Finset.card_le_card hsub
  omega

end pops

/-! ## Taking distinct values of a list, largest first -/

section picks

variable {P : Type} [Fintype P]

/-- The values left after `i` rounds. A round takes the largest value and writes `⊥` over each place that holds it. -/
def left (v : P → α) : ℕ → P → α
  | 0, p => v p
  | i + 1, p => if left v i p = Finset.univ.sup (left v i) then ⊥ else left v i p

/-- The value that round `i` takes. -/
def picked (v : P → α) (i : ℕ) : α := Finset.univ.sup (left v i)

variable (v : P → α) (M : α → Prop) (s : ℕ → α)

/-- Let `s` list values of `M` from the largest down, with nothing of `M` between two neighbours. Then what is left of values
    of `M` after `i` rounds is at most `s i`. -/
theorem left_le (hv : ∀ p, M (v p)) (h0 : ∀ x, M x → x ≤ s 0) (hs : ∀ i x, M x → x < s i → x ≤ s (i + 1)) (i : ℕ) (p : P) :
    (left v i p = ⊥ ∨ M (left v i p)) ∧ left v i p ≤ s i := by
  induction i generalizing p with
  | zero => exact ⟨Or.inr (hv p), h0 _ (hv p)⟩
  | succ i ih =>
    show ((if left v i p = picked v i then ⊥ else left v i p) = ⊥ ∨ M (if left v i p = picked v i then ⊥ else left v i p))
      ∧ (if left v i p = picked v i then ⊥ else left v i p) ≤ s (i + 1)
    split
    · exact ⟨Or.inl rfl, bot_le⟩
    · rename_i hne
      refine ⟨(ih p).1, ?_⟩
      have hlt : left v i p < picked v i := lt_of_le_of_ne (Finset.le_sup (f := left v i) (Finset.mem_univ p)) hne
      rcases (ih p).1 with h | h
      · rw [h]; exact bot_le
      · exact hs i _ h (hlt.trans_le (Finset.sup_le fun q _ => (ih q).2))

/-- Round `i` takes at most `s i`. -/
theorem picked_le (hv : ∀ p, M (v p)) (h0 : ∀ x, M x → x ≤ s 0) (hs : ∀ i x, M x → x < s i → x ≤ s (i + 1)) (i : ℕ) :
    picked v i ≤ s i := Finset.sup_le fun p _ => (left_le v M s hv h0 hs i p).2

/-- Where the first `j + 1` values of `s` fall strictly and all stand in the list, round `j` takes `s j`. -/
theorem picked_eq (hv : ∀ p, M (v p)) (h0 : ∀ x, M x → x ≤ s 0) (hs : ∀ i x, M x → x < s i → x ≤ s (i + 1)) (j : ℕ)
    (hlt : ∀ i, i < j → s (i + 1) < s i) (hin : ∀ i, i ≤ j → ∃ p, v p = s i) : picked v j = s j := by
  have hfall : ∀ i d, i + (d + 1) ≤ j → s (i + (d + 1)) < s i := by
    intro i d
    induction d with
    | zero => exact fun h => hlt i (by omega)
    | succ d ih => exact fun h => (hlt (i + (d + 1)) (by omega)).trans (ih (by omega))
  have stay : ∀ i, i ≤ j → ∀ i', i ≤ i' → i' ≤ j → ∀ p, v p = s i' → left v i p = s i' := by
    intro i
    induction i with
    | zero => exact fun _ i' _ _ p hp => hp
    | succ i ih =>
      intro hi i' hii hij p hp
      have hl := ih (by omega) i' (by omega) hij p hp
      obtain ⟨p₀, hp₀⟩ := hin i (by omega)
      have hpick : picked v i = s i := le_antisymm (picked_le v M s hv h0 hs i)
        ((ih (by omega) i (le_refl _) (by omega) p₀ hp₀) ▸ Finset.le_sup (f := left v i) (Finset.mem_univ p₀))
      show (if left v i p = picked v i then ⊥ else left v i p) = s i'
      have hne : left v i p ≠ picked v i := by
        rw [hl, hpick]
        obtain ⟨d, rfl⟩ := Nat.exists_eq_add_of_le hii
        have := hfall i d (by omega)
        rw [show i + 1 + d = i + (d + 1) by omega]
        exact this.ne
      rw [if_neg hne, hl]
  obtain ⟨p, hp⟩ := hin j (le_refl _)
  exact le_antisymm (picked_le v M s hv h0 hs j)
    ((stay j (le_refl _) j (le_refl _) (le_refl _) p hp) ▸ Finset.le_sup (f := left v j) (Finset.mem_univ p))

end picks

/-! ## A list in falling order -/

section falling

variable {n : ℕ} (row : Fin n → α) (σ : Equiv.Perm (Fin n))

/-- The values of a list in the order of a rearrangement, with `⊥` past the end. -/
def ranked (i : ℕ) : α := if h : i < n then row (σ ⟨i, h⟩) else ⊥

variable (hσ : Antitone (row ∘ σ))
include hσ

/-- Every value is at most the first. -/
theorem le_ranked_zero (k : Fin n) : row k ≤ ranked row σ 0 := by
  have h : 0 < n := Nat.zero_lt_of_lt k.2
  have := hσ (show (⟨0, h⟩ : Fin n) ≤ σ.symm k from Nat.zero_le _)
  simp only [Function.comp_apply, Equiv.apply_symm_apply] at this
  rw [ranked, dif_pos h]; exact this

/-- A value below the one ranked `i` is at most the one ranked `i + 1`. -/
theorem le_ranked_succ (i : ℕ) (k : Fin n) (hk : row k < ranked row σ i) : row k ≤ ranked row σ (i + 1) := by
  unfold ranked at hk
  split at hk
  · rename_i hi
    have hlt : i < (σ.symm k).val := by
      by_contra hle
      have := hσ (show σ.symm k ≤ ⟨i, hi⟩ from not_lt.mp hle)
      simp only [Function.comp_apply, Equiv.apply_symm_apply] at this
      exact absurd hk (not_lt.mpr this)
    have hi1 : i + 1 < n := lt_of_le_of_lt hlt (σ.symm k).2
    have := hσ (show (⟨i + 1, hi1⟩ : Fin n) ≤ σ.symm k from hlt)
    simp only [Function.comp_apply, Equiv.apply_symm_apply] at this
    rw [ranked, dif_pos hi1]; exact this
  · exact absurd hk not_lt_bot

/-- At most `i` values stand above the one ranked `i`. -/
theorem card_above_ranked (i : ℕ) (hi : i < n) : (Finset.univ.filter fun k : Fin n => ranked row σ i < row k).card ≤ i := by
  have hmap : ∀ k ∈ Finset.univ.filter (fun k : Fin n => ranked row σ i < row k), (σ.symm k).val ∈ Finset.range i := by
    intro k hk
    have hk' : ranked row σ i < row k := (Finset.mem_filter.mp hk).2
    rw [Finset.mem_range]
    by_contra hle
    have := hσ (show (⟨i, hi⟩ : Fin n) ≤ σ.symm k from not_lt.mp hle)
    simp only [Function.comp_apply, Equiv.apply_symm_apply] at this
    rw [ranked, dif_pos hi] at hk'
    exact absurd hk' (not_lt.mpr this)
  have := Finset.card_le_card_of_injOn (fun k => (σ.symm k).val) hmap
    (fun a _ b _ h => σ.symm.injective (Fin.ext h))
  rwa [Finset.card_range] at this

end falling

end Cert.Exchange

end
-- ==== Proof.Read.lean ====
module

public import proofs.«01_k».proof.Proof.Gen.KernelIdeal
public import proofs.«01_k».proof.Proof.Gen.KernelIdeal.Skeleton
public import proofs.«01_k».proof.Proof.Protocol
public import proofs.«01_k».proof.Proof.Network
public import proofs.«01_k».proof.Proof.Select
public import Idealize.ShloMosaic.Lib.Pointwise

@[expose] public section

noncomputable section

namespace Cert.Exchange

open Cert.KernelIdeal Cert.KernelIdeal.Gen
open Idealize.ShloMosaic

/-! ## The operations of the two selections, read at an index -/

/-- The least value of the type, as the kernel's reductions start, is `⊥`. -/
theorem ofBits_lowest : Ideal.ofBits FTy.bf16 65408#16 = (⊥ : EReal) := by
  rfl

/-- Two arrays of 256 rows agree when they agree at each row and place. -/
theorem ext_rows {n : ℕ} {α : Type} {f g : (⟨2, ![256, n]⟩ : Shape).Idx → α} (h : ∀ (r : Fin 256) (q : Fin n), f (ix2 r q) = g (ix2 r q)) : f = g := by
  funext k
  rw [eq_ix2 k]
  exact h _ _

/-- A running maximum that starts at `⊥` is the supremum. -/
theorem fold_max_bot {P : Type} [Fintype P] (v : P → EReal) : Finset.fold max ⊥ v Finset.univ = Finset.univ.sup v := rfl

/-- The largest value of each row, as the kernel takes it over 128 places, is the supremum of the row. -/
theorem rowMax128 (v : FVec Ideal S256x128 .bf16) (r : Fin 256) (z : Fin 1) :
    shapeCast S256x1 (multiReduction .maximumf [1] S256 v 0xFF80#16 reduces_S256x128_S256 (.inr rfl) rfl) shapeCasts_S256_S256x1 (ix2 r z)
      = Finset.univ.sup fun q : Fin 128 => v (ix2 r q) := by
  pointwise
  rw [ofBits_lowest]
  rfl

/-- The same over 16 places. -/
theorem rowMax16 (v : FVec Ideal S256x16 .bf16) (r : Fin 256) (z : Fin 1) :
    shapeCast S256x1 (multiReduction .maximumf [1] S256 v 0xFF80#16 reduces_S256x16_S256 (.inr rfl) rfl) shapeCasts_S256_S256x1 (ix2 r z)
      = Finset.univ.sup fun q : Fin 16 => v (ix2 r q) := by
  pointwise
  rw [ofBits_lowest]
  rfl

/-- Replacing what equals the row's own value `t`, over 128 places. -/
theorem replace128 (v w u : FVec Ideal S256x128 .bf16) (t : FVec Ideal S256x1 .bf16) (r : Fin 256) (q : Fin 128) :
    select (cmpf .oeq v (broadcastTo S256x128 t broadcasts_S256x1_S256x128)) w u (ix2 r q)
      = if v (ix2 r q) = t (ix2 r 0) then w (ix2 r q) else u (ix2 r q) := by
  pointwise

/-- Masking what equals the row's own value `t`, over 16 places. -/
theorem mask16 (v : FVec Ideal S256x16 .bf16) (t : FVec Ideal S256x1 .bf16) (r : Fin 256) (q : Fin 16) :
    select (cmpf .oeq v (broadcastTo S256x16 t broadcasts_S256x1_S256x16)) (broadcast S256x16 (Named.named (F := Ideal) (φ := .bf16) κ "lowest" 0xFF7F#16)) v (ix2 r q)
      = if v (ix2 r q) = t (ix2 r 0) then ⊥ else v (ix2 r q) := by
  have hn : (Named.named (F := Ideal) (φ := .bf16) κ "lowest" 0xFF7F#16) = (⊥ : EReal) :=
    IdealRules.named_const.ideal_named_scalar (φ := .bf16) κ "lowest" 0xFF7F#16 ⊥ rfl
  pointwise
  rw [hn]

/-- Eight columns laid side by side. -/
theorem cat8 (v0 v1 v2 v3 v4 v5 v6 v7 : FVec Ideal S256x1 .bf16) (r : Fin 256) (q : Fin 8) :
    concatenate S256x8 1 [⟨S256x1, v0⟩, ⟨S256x1, v1⟩, ⟨S256x1, v2⟩, ⟨S256x1, v3⟩, ⟨S256x1, v4⟩, ⟨S256x1, v5⟩, ⟨S256x1, v6⟩, ⟨S256x1, v7⟩] concatenates_S256x1_S256x1_S256x1_S256x1_S256x1_S256x1_S256x1_S256x1_S256x8_d1 (ix2 r q)
      = ![v0, v1, v2, v3, v4, v5, v6, v7] q (ix2 r 0) := by
  fin_cases q <;> pointwise

/-- The two devices' lists laid side by side. -/
theorem cat16 (a b : FVec Ideal S256x8 .bf16) (r : Fin 256) (q : Fin 16) :
    concatenate S256x16 1 [⟨S256x8, a⟩, ⟨S256x8, b⟩] concatenates_S256x8_S256x8_S256x16_d1 (ix2 r q)
      = if h : (q : ℕ) < 8 then a (ix2 r ⟨q, h⟩) else b (ix2 r ⟨q - 8, by omega⟩) := by
  pointwise

/-- A reshape to the same shape changes nothing. -/
theorem keep8 (v : FVec Ideal S256x8 .bf16) : shapeCast S256x8 v shapeCasts_S256x8_S256x8 = v := by
  apply ext_rows; intro r q
  pointwise

/-- Chunk 0 of the staged block. -/
theorem chunk0 (x : FVec Ideal S256x1024 .bf16) (r : Fin 256) (q : Fin 128) :
    k0_pay3 x (ix2 r q) = x (ix2 r ⟨128 * 0 + q, by omega⟩) := by
  unfold k0_pay3 k0_pay2
  pointwise

/-- Chunk 1 of the staged block. -/
theorem chunk1 (x : FVec Ideal S256x1024 .bf16) (r : Fin 256) (q : Fin 128) :
    k0_pay4 x (ix2 r q) = x (ix2 r ⟨128 * 1 + q, by omega⟩) := by
  unfold k0_pay4 k0_pay2
  pointwise

/-- Chunk 2 of the staged block. -/
theorem chunk2 (x : FVec Ideal S256x1024 .bf16) (r : Fin 256) (q : Fin 128) :
    k0_pay5 x (ix2 r q) = x (ix2 r ⟨128 * 2 + q, by omega⟩) := by
  unfold k0_pay5 k0_pay2
  pointwise

/-- Chunk 3 of the staged block. -/
theorem chunk3 (x : FVec Ideal S256x1024 .bf16) (r : Fin 256) (q : Fin 128) :
    k0_pay6 x (ix2 r q) = x (ix2 r ⟨128 * 3 + q, by omega⟩) := by
  unfold k0_pay6 k0_pay2
  pointwise

/-- Chunk 4 of the staged block. -/
theorem chunk4 (x : FVec Ideal S256x1024 .bf16) (r : Fin 256) (q : Fin 128) :
    k0_pay7 x (ix2 r q) = x (ix2 r ⟨128 * 4 + q, by omega⟩) := by
  unfold k0_pay7 k0_pay2
  pointwise

/-- Chunk 5 of the staged block. -/
theorem chunk5 (x : FVec Ideal S256x1024 .bf16) (r : Fin 256) (q : Fin 128) :
    k0_pay8 x (ix2 r q) = x (ix2 r ⟨128 * 5 + q, by omega⟩) := by
  unfold k0_pay8 k0_pay2
  pointwise

/-- Chunk 6 of the staged block. -/
theorem chunk6 (x : FVec Ideal S256x1024 .bf16) (r : Fin 256) (q : Fin 128) :
    k0_pay9 x (ix2 r q) = x (ix2 r ⟨128 * 6 + q, by omega⟩) := by
  unfold k0_pay9 k0_pay2
  pointwise

/-- Chunk 7 of the staged block. -/
theorem chunk7 (x : FVec Ideal S256x1024 .bf16) (r : Fin 256) (q : Fin 128) :
    k0_pay10 x (ix2 r q) = x (ix2 r ⟨128 * 7 + q, by omega⟩) := by
  unfold k0_pay10 k0_pay2
  pointwise

end Cert.Exchange

end
-- ==== Proof.Local.lean ====
module

public import proofs.«01_k».proof.Proof.Read

@[expose] public section

noncomputable section

namespace Cert.Exchange

open Cert.KernelIdeal Cert.KernelIdeal.Gen
open Idealize.ShloMosaic

/-! ## A device's own eight values

The kernel sorts the eight chunks of a device's block at each of 128 places, and takes eight maxima off the sorted columns. -/

/-- Column `q` of row `r`: the values at place `q` of the eight chunks, falling, and `⊥` below them. -/
def column (x : FVec Ideal S256x1024 .bf16) (r : Fin 256) (q : Fin 128) (j : ℕ) : EReal :=
  if h : j < 8 then runWires wires (fun k : Fin 8 => x (ix2 r ⟨128 * k + q, by omega⟩)) ⟨j, h⟩ else ⊥

/-- The chunks at an index. -/
theorem chunks_eq (x : FVec Ideal S256x1024 .bf16) (r : Fin 256) (q : Fin 128) :
    (fun k : Fin 8 => x (ix2 r ⟨128 * k + q, by omega⟩))
      = ![k0_pay3 x (ix2 r q), k0_pay4 x (ix2 r q), k0_pay5 x (ix2 r q), k0_pay6 x (ix2 r q), k0_pay7 x (ix2 r q), k0_pay8 x (ix2 r q), k0_pay9 x (ix2 r q), k0_pay10 x (ix2 r q)] := by
  rw [chunk0, chunk1, chunk2, chunk3, chunk4, chunk5, chunk6, chunk7]
  funext k
  fin_cases k <;> rfl

/-- Slot `j` of every column after `i` rounds. -/
def slotV (x : FVec Ideal S256x1024 .bf16) (i j : ℕ) : FVec Ideal S256x128 .bf16 := fun k => slots (column x (k 0)) i j (k 1)

/-- What round `i` takes in every row. -/
def popV (x : FVec Ideal S256x1024 .bf16) (i : ℕ) : FVec Ideal S256x1 .bf16 := fun k => popped (column x (k 0)) i

/-- The largest of the heads is what the round takes. -/
theorem rowMax_slotV (x : FVec Ideal S256x1024 .bf16) (i : ℕ) :
    shapeCast S256x1 (multiReduction .maximumf [1] S256 (slotV x i 0) 0xFF80#16 reduces_S256x128_S256 (.inr rfl) rfl) shapeCasts_S256_S256x1 = popV x i := by
  apply ext_rows; intro r z
  rw [rowMax128]
  rfl

/-- A round's replacement moves a slot to the next round. -/
theorem replace_slotV (x : FVec Ideal S256x1024 .bf16) (i j : ℕ) :
    select (cmpf .oeq (slotV x i 0) (broadcastTo S256x128 (popV x i) broadcasts_S256x1_S256x128)) (slotV x i (j + 1)) (slotV x i j) = slotV x (i + 1) j := by
  apply ext_rows; intro r q
  rw [replace128]
  rfl

/-- Slot 0 before the first round, as the network leaves it. -/
theorem pay31_eq (x : FVec Ideal S256x1024 .bf16) :
    k0_pay31 (F := Ideal) (k0_pay19 x) (k0_pay23 x) = slotV x 0 0 := by
  apply ext_rows; intro r q
  show _ = runWires wires (fun k : Fin 8 => x (ix2 r ⟨128 * k + q, by omega⟩)) 0
  rw [chunks_eq, runWires_eq]
  rfl

/-- Slot 1 before the first round, as the network leaves it. -/
theorem pay42_eq (x : FVec Ideal S256x1024 .bf16) :
    k0_pay42 (F := Ideal) (k0_pay19 x) (k0_pay20 x) (k0_pay21 x) (k0_pay23 x) (k0_pay24 x) (k0_pay25 x) (k0_pay27 x) = slotV x 0 1 := by
  apply ext_rows; intro r q
  show _ = runWires wires (fun k : Fin 8 => x (ix2 r ⟨128 * k + q, by omega⟩)) 1
  rw [chunks_eq, runWires_eq]
  rfl

/-- Slot 2 before the first round, as the network leaves it. -/
theorem pay43_eq (x : FVec Ideal S256x1024 .bf16) :
    k0_pay43 (F := Ideal) (k0_pay19 x) (k0_pay20 x) (k0_pay21 x) (k0_pay23 x) (k0_pay24 x) (k0_pay25 x) (k0_pay27 x) = slotV x 0 2 := by
  apply ext_rows; intro r q
  show _ = runWires wires (fun k : Fin 8 => x (ix2 r ⟨128 * k + q, by omega⟩)) 2
  rw [chunks_eq, runWires_eq]
  rfl

/-- Slot 3 before the first round, as the network leaves it. -/
theorem pay44_eq (x : FVec Ideal S256x1024 .bf16) :
    k0_pay44 (F := Ideal) (k0_pay19 x) (k0_pay20 x) (k0_pay21 x) (k0_pay22 x) (k0_pay23 x) (k0_pay24 x) (k0_pay25 x) (k0_pay26 x) (k0_pay27 x) = slotV x 0 3 := by
  apply ext_rows; intro r q
  show _ = runWires wires (fun k : Fin 8 => x (ix2 r ⟨128 * k + q, by omega⟩)) 3
  rw [chunks_eq, runWires_eq]
  rfl

/-- Slot 4 before the first round, as the network leaves it. -/
theorem pay45_eq (x : FVec Ideal S256x1024 .bf16) :
    k0_pay45 (F := Ideal) (k0_pay19 x) (k0_pay20 x) (k0_pay21 x) (k0_pay22 x) (k0_pay23 x) (k0_pay24 x) (k0_pay25 x) (k0_pay26 x) (k0_pay27 x) = slotV x 0 4 := by
  apply ext_rows; intro r q
  show _ = runWires wires (fun k : Fin 8 => x (ix2 r ⟨128 * k + q, by omega⟩)) 4
  rw [chunks_eq, runWires_eq]
  rfl

/-- Slot 5 before the first round, as the network leaves it. -/
theorem pay46_eq (x : FVec Ideal S256x1024 .bf16) :
    k0_pay46 (F := Ideal) (k0_pay20 x) (k0_pay21 x) (k0_pay22 x) (k0_pay24 x) (k0_pay25 x) (k0_pay26 x) (k0_pay27 x) = slotV x 0 5 := by
  apply ext_rows; intro r q
  show _ = runWires wires (fun k : Fin 8 => x (ix2 r ⟨128 * k + q, by omega⟩)) 5
  rw [chunks_eq, runWires_eq]
  rfl

/-- Slot 6 before the first round, as the network leaves it. -/
theorem pay47_eq (x : FVec Ideal S256x1024 .bf16) :
    k0_pay47 (F := Ideal) (k0_pay20 x) (k0_pay21 x) (k0_pay22 x) (k0_pay24 x) (k0_pay25 x) (k0_pay26 x) (k0_pay27 x) = slotV x 0 6 := by
  apply ext_rows; intro r q
  show _ = runWires wires (fun k : Fin 8 => x (ix2 r ⟨128 * k + q, by omega⟩)) 6
  rw [chunks_eq, runWires_eq]
  rfl

/-- Slot 7 before the first round, as the network leaves it. -/
theorem last_eq (x : FVec Ideal S256x1024 .bf16) : minimumf (k0_pay22 x) (k0_pay26 x) = slotV x 0 7 := by
  apply ext_rows; intro r q
  show _ = runWires wires (fun k : Fin 8 => x (ix2 r ⟨128 * k + q, by omega⟩)) 7
  rw [chunks_eq, runWires_eq]
  rfl

/-- What round 0 takes. -/
theorem pay48_eq (x : FVec Ideal S256x1024 .bf16) :
    k0_pay48 (F := Ideal) (k0_pay19 x) (k0_pay23 x) = popV x 0 := by
  unfold k0_pay48
  dsimp only
  rw [pay31_eq]
  exact rowMax_slotV x 0

/-- Where the head is what round 0 takes. -/
theorem pay49_eq (x : FVec Ideal S256x1024 .bf16) :
    k0_pay49 (F := Ideal) (k0_pay19 x) (k0_pay23 x) = cmpf .oeq (slotV x 0 0) (broadcastTo S256x128 (popV x 0) broadcasts_S256x1_S256x128) := by
  unfold k0_pay49
  dsimp only
  rw [pay31_eq, pay48_eq]

/-- Slot 0 after 1 rounds. -/
theorem pay50_eq (x : FVec Ideal S256x1024 .bf16) :
    k0_pay50 (F := Ideal) (k0_pay19 x) (k0_pay20 x) (k0_pay21 x) (k0_pay23 x) (k0_pay24 x) (k0_pay25 x) (k0_pay27 x) = slotV x 1 0 := by
  unfold k0_pay50
  dsimp only
  rw [pay49_eq, pay42_eq, pay31_eq]
  exact replace_slotV x 0 0

/-- Slot 1 after 1 rounds. -/
theorem pay51_eq (x : FVec Ideal S256x1024 .bf16) :
    k0_pay51 (F := Ideal) (k0_pay19 x) (k0_pay20 x) (k0_pay21 x) (k0_pay23 x) (k0_pay24 x) (k0_pay25 x) (k0_pay27 x) = slotV x 1 1 := by
  unfold k0_pay51
  dsimp only
  rw [pay49_eq, pay43_eq, pay42_eq]
  exact replace_slotV x 0 1

/-- Slot 2 after 1 rounds. -/
theorem pay52_eq (x : FVec Ideal S256x1024 .bf16) :
    k0_pay52 (F := Ideal) (k0_pay19 x) (k0_pay20 x) (k0_pay21 x) (k0_pay22 x) (k0_pay23 x) (k0_pay24 x) (k0_pay25 x) (k0_pay26 x) (k0_pay27 x) = slotV x 1 2 := by
  unfold k0_pay52
  dsimp only
  rw [pay49_eq, pay44_eq, pay43_eq]
  exact replace_slotV x 0 2

/-- Slot 3 after 1 rounds. -/
theorem pay53_eq (x : FVec Ideal S256x1024 .bf16) :
    k0_pay53 (F := Ideal) (k0_pay19 x) (k0_pay20 x) (k0_pay21 x) (k0_pay22 x) (k0_pay23 x) (k0_pay24 x) (k0_pay25 x) (k0_pay26 x) (k0_pay27 x) = slotV x 1 3 := by
  unfold k0_pay53
  dsimp only
  rw [pay49_eq, pay45_eq, pay44_eq]
  exact replace_slotV x 0 3

/-- Slot 4 after 1 rounds. -/
theorem pay54_eq (x : FVec Ideal S256x1024 .bf16) :
    k0_pay54 (F := Ideal) (k0_pay19 x) (k0_pay20 x) (k0_pay21 x) (k0_pay22 x) (k0_pay23 x) (k0_pay24 x) (k0_pay25 x) (k0_pay26 x) (k0_pay27 x) = slotV x 1 4 := by
  unfold k0_pay54
  dsimp only
  rw [pay49_eq, pay46_eq, pay45_eq]
  exact replace_slotV x 0 4

/-- Slot 5 after 1 rounds. -/
theorem pay55_eq (x : FVec Ideal S256x1024 .bf16) :
    k0_pay55 (F := Ideal) (k0_pay19 x) (k0_pay20 x) (k0_pay21 x) (k0_pay22 x) (k0_pay23 x) (k0_pay24 x) (k0_pay25 x) (k0_pay26 x) (k0_pay27 x) = slotV x 1 5 := by
  unfold k0_pay55
  dsimp only
  rw [pay49_eq, pay47_eq, pay46_eq]
  exact replace_slotV x 0 5

/-- What round 1 takes. -/
theorem pay56_eq (x : FVec Ideal S256x1024 .bf16) :
    k0_pay56 (F := Ideal) (k0_pay19 x) (k0_pay20 x) (k0_pay21 x) (k0_pay23 x) (k0_pay24 x) (k0_pay25 x) (k0_pay27 x) = popV x 1 := by
  unfold k0_pay56
  dsimp only
  rw [pay50_eq]
  exact rowMax_slotV x 1

/-- Where the head is what round 1 takes. -/
theorem pay57_eq (x : FVec Ideal S256x1024 .bf16) :
    k0_pay57 (F := Ideal) (k0_pay19 x) (k0_pay20 x) (k0_pay21 x) (k0_pay23 x) (k0_pay24 x) (k0_pay25 x) (k0_pay27 x) = cmpf .oeq (slotV x 1 0) (broadcastTo S256x128 (popV x 1) broadcasts_S256x1_S256x128) := by
  unfold k0_pay57
  dsimp only
  rw [pay50_eq, pay56_eq]

/-- Slot 0 after 2 rounds. -/
theorem pay58_eq (x : FVec Ideal S256x1024 .bf16) :
    k0_pay58 (F := Ideal) (k0_pay19 x) (k0_pay20 x) (k0_pay21 x) (k0_pay23 x) (k0_pay24 x) (k0_pay25 x) (k0_pay27 x) = slotV x 2 0 := by
  unfold k0_pay58
  dsimp only
  rw [pay57_eq, pay51_eq, pay50_eq]
  exact replace_slotV x 1 0

/-- Slot 1 after 2 rounds. -/
theorem pay59_eq (x : FVec Ideal S256x1024 .bf16) :
    k0_pay59 (F := Ideal) (k0_pay19 x) (k0_pay20 x) (k0_pay21 x) (k0_pay22 x) (k0_pay23 x) (k0_pay24 x) (k0_pay25 x) (k0_pay26 x) (k0_pay27 x) = slotV x 2 1 := by
  unfold k0_pay59
  dsimp only
  rw [pay57_eq, pay52_eq, pay51_eq]
  exact replace_slotV x 1 1

/-- Slot 2 after 2 rounds. -/
theorem pay60_eq (x : FVec Ideal S256x1024 .bf16) :
    k0_pay60 (F := Ideal) (k0_pay19 x) (k0_pay20 x) (k0_pay21 x) (k0_pay22 x) (k0_pay23 x) (k0_pay24 x) (k0_pay25 x) (k0_pay26 x) (k0_pay27 x) = slotV x 2 2 := by
  unfold k0_pay60
  dsimp only
  rw [pay57_eq, pay53_eq, pay52_eq]
  exact replace_slotV x 1 2

/-- Slot 3 after 2 rounds. -/
theorem pay61_eq (x : FVec Ideal S256x1024 .bf16) :
    k0_pay61 (F := Ideal) (k0_pay19 x) (k0_pay20 x) (k0_pay21 x) (k0_pay22 x) (k0_pay23 x) (k0_pay24 x) (k0_pay25 x) (k0_pay26 x) (k0_pay27 x) = slotV x 2 3 := by
  unfold k0_pay61
  dsimp only
  rw [pay57_eq, pay54_eq, pay53_eq]
  exact replace_slotV x 1 3

/-- Slot 4 after 2 rounds. -/
theorem pay62_eq (x : FVec Ideal S256x1024 .bf16) :
    k0_pay62 (F := Ideal) (k0_pay19 x) (k0_pay20 x) (k0_pay21 x) (k0_pay22 x) (k0_pay23 x) (k0_pay24 x) (k0_pay25 x) (k0_pay26 x) (k0_pay27 x) = slotV x 2 4 := by
  unfold k0_pay62
  dsimp only
  rw [pay57_eq, pay55_eq, pay54_eq]
  exact replace_slotV x 1 4

/-- What round 2 takes. -/
theorem pay63_eq (x : FVec Ideal S256x1024 .bf16) :
    k0_pay63 (F := Ideal) (k0_pay19 x) (k0_pay20 x) (k0_pay21 x) (k0_pay23 x) (k0_pay24 x) (k0_pay25 x) (k0_pay27 x) = popV x 2 := by
  unfold k0_pay63
  dsimp only
  rw [pay58_eq]
  exact rowMax_slotV x 2

/-- Where the head is what round 2 takes. -/
theorem pay64_eq (x : FVec Ideal S256x1024 .bf16) :
    k0_pay64 (F := Ideal) (k0_pay19 x) (k0_pay20 x) (k0_pay21 x) (k0_pay23 x) (k0_pay24 x) (k0_pay25 x) (k0_pay27 x) = cmpf .oeq (slotV x 2 0) (broadcastTo S256x128 (popV x 2) broadcasts_S256x1_S256x128) := by
  unfold k0_pay64
  dsimp only
  rw [pay58_eq, pay63_eq]

/-- Slot 0 after 3 rounds. -/
theorem pay65_eq (x : FVec Ideal S256x1024 .bf16) :
    k0_pay65 (F := Ideal) (k0_pay19 x) (k0_pay20 x) (k0_pay21 x) (k0_pay22 x) (k0_pay23 x) (k0_pay24 x) (k0_pay25 x) (k0_pay26 x) (k0_pay27 x) = slotV x 3 0 := by
  unfold k0_pay65
  dsimp only
  rw [pay64_eq, pay59_eq, pay58_eq]
  exact replace_slotV x 2 0

/-- Slot 1 after 3 rounds. -/
theorem pay66_eq (x : FVec Ideal S256x1024 .bf16) :
    k0_pay66 (F := Ideal) (k0_pay19 x) (k0_pay20 x) (k0_pay21 x) (k0_pay22 x) (k0_pay23 x) (k0_pay24 x) (k0_pay25 x) (k0_pay26 x) (k0_pay27 x) = slotV x 3 1 := by
  unfold k0_pay66
  dsimp only
  rw [pay64_eq, pay60_eq, pay59_eq]
  exact replace_slotV x 2 1

/-- Slot 2 after 3 rounds. -/
theorem pay67_eq (x : FVec Ideal S256x1024 .bf16) :
    k0_pay67 (F := Ideal) (k0_pay19 x) (k0_pay20 x) (k0_pay21 x) (k0_pay22 x) (k0_pay23 x) (k0_pay24 x) (k0_pay25 x) (k0_pay26 x) (k0_pay27 x) = slotV x 3 2 := by
  unfold k0_pay67
  dsimp only
  rw [pay64_eq, pay61_eq, pay60_eq]
  exact replace_slotV x 2 2

/-- Slot 3 after 3 rounds. -/
theorem pay68_eq (x : FVec Ideal S256x1024 .bf16) :
    k0_pay68 (F := Ideal) (k0_pay19 x) (k0_pay20 x) (k0_pay21 x) (k0_pay22 x) (k0_pay23 x) (k0_pay24 x) (k0_pay25 x) (k0_pay26 x) (k0_pay27 x) = slotV x 3 3 := by
  unfold k0_pay68
  dsimp only
  rw [pay64_eq, pay62_eq, pay61_eq]
  exact replace_slotV x 2 3

/-- Slot 4 after 3 rounds. -/
theorem pay69_eq (x : FVec Ideal S256x1024 .bf16) :
    k0_pay69 (F := Ideal) (k0_pay19 x) (k0_pay20 x) (k0_pay21 x) (k0_pay22 x) (k0_pay23 x) (k0_pay24 x) (k0_pay25 x) (k0_pay26 x) (k0_pay27 x) = slotV x 3 4 := by
  unfold k0_pay69
  dsimp only
  rw [last_eq, pay49_eq, pay57_eq, pay64_eq, pay47_eq, pay55_eq, pay62_eq, replace_slotV x 0 6, replace_slotV x 1 5, replace_slotV x 2 4]

/-- What round 3 takes. -/
theorem pay70_eq (x : FVec Ideal S256x1024 .bf16) :
    k0_pay70 (F := Ideal) (k0_pay19 x) (k0_pay20 x) (k0_pay21 x) (k0_pay22 x) (k0_pay23 x) (k0_pay24 x) (k0_pay25 x) (k0_pay26 x) (k0_pay27 x) = popV x 3 := by
  unfold k0_pay70
  dsimp only
  rw [pay65_eq]
  exact rowMax_slotV x 3

/-- Where the head is what round 3 takes. -/
theorem pay71_eq (x : FVec Ideal S256x1024 .bf16) :
    k0_pay71 (F := Ideal) (k0_pay19 x) (k0_pay20 x) (k0_pay21 x) (k0_pay22 x) (k0_pay23 x) (k0_pay24 x) (k0_pay25 x) (k0_pay26 x) (k0_pay27 x) = cmpf .oeq (slotV x 3 0) (broadcastTo S256x128 (popV x 3) broadcasts_S256x1_S256x128) := by
  unfold k0_pay71
  dsimp only
  rw [pay65_eq, pay70_eq]

/-- Slot 0 after 4 rounds. -/
theorem pay72_eq (x : FVec Ideal S256x1024 .bf16) :
    k0_pay72 (F := Ideal) (k0_pay19 x) (k0_pay20 x) (k0_pay21 x) (k0_pay22 x) (k0_pay23 x) (k0_pay24 x) (k0_pay25 x) (k0_pay26 x) (k0_pay27 x) = slotV x 4 0 := by
  unfold k0_pay72
  dsimp only
  rw [pay71_eq, pay66_eq, pay65_eq]
  exact replace_slotV x 3 0

/-- Column `j` of a device's own list is what round `j` takes. -/
theorem localTop_apply (x : FVec Ideal S256x1024 .bf16) (r : Fin 256) (j : Fin 8) :
    localTop (F := Ideal) x (ix2 r j) = popped (column x r) j := by
  unfold localTop
  rw [pay48_eq, pay56_eq, pay63_eq, pay66_eq, pay67_eq, pay68_eq, pay69_eq, pay70_eq, pay71_eq, pay72_eq]
  unfold k0_pay73
  dsimp only
  rw [replace_slotV x 3 1, replace_slotV x 3 2, replace_slotV x 3 3, rowMax_slotV x 4, replace_slotV x 4 0, replace_slotV x 4 1, replace_slotV x 4 2,
    rowMax_slotV x 5, replace_slotV x 5 0, replace_slotV x 5 1, rowMax_slotV x 6, replace_slotV x 6 0, rowMax_slotV x 7, keep8, cat8]
  fin_cases j <;> rfl

end Cert.Exchange

end
-- ==== Proof.Merge.lean ====
module

public import proofs.«01_k».proof.Proof.Local

@[expose] public section

noncomputable section

namespace Cert.Exchange

open Cert.KernelIdeal Cert.KernelIdeal.Gen
open Idealize.ShloMosaic

/-! ## The merge

From the sixteen values two devices found, a device takes the largest eight times, masking with `-∞` every place that holds it. -/

/-- Row `r` of two lists of eight, side by side. -/
def both (a b : FVec Ideal S256x8 .bf16) (r : Fin 256) (p : Fin 16) : EReal :=
  if h : (p : ℕ) < 8 then a (ix2 r ⟨p, h⟩) else b (ix2 r ⟨p - 8, by omega⟩)

/-- What is left of every row after `i` picks. -/
def leftV (a b : FVec Ideal S256x8 .bf16) (i : ℕ) : FVec Ideal S256x16 .bf16 := fun k => left (both a b (k 0)) i (k 1)

/-- The pick `i` of every row. -/
def pickV (a b : FVec Ideal S256x8 .bf16) (i : ℕ) : FVec Ideal S256x1 .bf16 := fun k => picked (both a b (k 0)) i

/-- The largest of what is left is the pick. -/
theorem rowMax_leftV (a b : FVec Ideal S256x8 .bf16) (i : ℕ) :
    shapeCast S256x1 (multiReduction .maximumf [1] S256 (leftV a b i) 0xFF80#16 reduces_S256x16_S256 (.inr rfl) rfl) shapeCasts_S256_S256x1 = pickV a b i := by
  apply ext_rows; intro r z
  rw [rowMax16]
  rfl

/-- Masking the pick leaves what the next pick is taken from. -/
theorem mask_leftV (a b : FVec Ideal S256x8 .bf16) (i : ℕ) :
    select (cmpf .oeq (leftV a b i) (broadcastTo S256x16 (pickV a b i) broadcasts_S256x1_S256x16)) (broadcast S256x16 (Named.named (F := Ideal) (φ := .bf16) κ "lowest" 0xFF7F#16)) (leftV a b i)
      = leftV a b (i + 1) := by
  apply ext_rows; intro r q
  rw [mask16]
  rfl

/-- The two lists side by side, as the kernel concatenates them. -/
theorem pay74_eq (a b : FVec Ideal S256x8 .bf16) : k0_pay74 (F := Ideal) a b = leftV a b 0 := by
  unfold k0_pay74
  dsimp only
  apply ext_rows; intro r q
  rw [cat16]
  rfl

/-- Pick 0. -/
theorem pay75_eq (a b : FVec Ideal S256x8 .bf16) : k0_pay75 (F := Ideal) a b = pickV a b 0 := by
  unfold k0_pay75
  dsimp only
  rw [pay74_eq]
  exact rowMax_leftV a b 0

/-- What is left after 1 picks. -/
theorem pay76_eq (a b : FVec Ideal S256x8 .bf16) : k0_pay76 (F := Ideal) a b = leftV a b 1 := by
  unfold k0_pay76
  dsimp only
  rw [pay74_eq, pay75_eq]
  exact mask_leftV a b 0

/-- Pick 1. -/
theorem pay77_eq (a b : FVec Ideal S256x8 .bf16) : k0_pay77 (F := Ideal) a b = pickV a b 1 := by
  unfold k0_pay77
  dsimp only
  rw [pay76_eq]
  exact rowMax_leftV a b 1

/-- What is left after 2 picks. -/
theorem pay78_eq (a b : FVec Ideal S256x8 .bf16) : k0_pay78 (F := Ideal) a b = leftV a b 2 := by
  unfold k0_pay78
  dsimp only
  rw [pay76_eq, pay77_eq]
  exact mask_leftV a b 1

/-- Pick 2. -/
theorem pay79_eq (a b : FVec Ideal S256x8 .bf16) : k0_pay79 (F := Ideal) a b = pickV a b 2 := by
  unfold k0_pay79
  dsimp only
  rw [pay78_eq]
  exact rowMax_leftV a b 2

/-- What is left after 3 picks. -/
theorem pay80_eq (a b : FVec Ideal S256x8 .bf16) : k0_pay80 (F := Ideal) a b = leftV a b 3 := by
  unfold k0_pay80
  dsimp only
  rw [pay78_eq, pay79_eq]
  exact mask_leftV a b 2

/-- Pick 3. -/
theorem pay81_eq (a b : FVec Ideal S256x8 .bf16) : k0_pay81 (F := Ideal) a b = pickV a b 3 := by
  unfold k0_pay81
  dsimp only
  rw [pay80_eq]
  exact rowMax_leftV a b 3

/-- What is left after 4 picks. -/
theorem pay82_eq (a b : FVec Ideal S256x8 .bf16) : k0_pay82 (F := Ideal) a b = leftV a b 4 := by
  unfold k0_pay82
  dsimp only
  rw [pay80_eq, pay81_eq]
  exact mask_leftV a b 3

/-- Pick 4. -/
theorem pay83_eq (a b : FVec Ideal S256x8 .bf16) : k0_pay83 (F := Ideal) a b = pickV a b 4 := by
  unfold k0_pay83
  dsimp only
  rw [pay82_eq]
  exact rowMax_leftV a b 4

/-- What is left after 5 picks. -/
theorem pay84_eq (a b : FVec Ideal S256x8 .bf16) : k0_pay84 (F := Ideal) a b = leftV a b 5 := by
  unfold k0_pay84
  dsimp only
  rw [pay82_eq, pay83_eq]
  exact mask_leftV a b 4

/-- Pick 5. -/
theorem pay85_eq (a b : FVec Ideal S256x8 .bf16) : k0_pay85 (F := Ideal) a b = pickV a b 5 := by
  unfold k0_pay85
  dsimp only
  rw [pay84_eq]
  exact rowMax_leftV a b 5

/-- What is left after 6 picks. -/
theorem pay86_eq (a b : FVec Ideal S256x8 .bf16) : k0_pay86 (F := Ideal) a b = leftV a b 6 := by
  unfold k0_pay86
  dsimp only
  rw [pay84_eq, pay85_eq]
  exact mask_leftV a b 5

/-- Pick 6. -/
theorem pay87_eq (a b : FVec Ideal S256x8 .bf16) : k0_pay87 (F := Ideal) a b = pickV a b 6 := by
  unfold k0_pay87
  dsimp only
  rw [pay86_eq]
  exact rowMax_leftV a b 6

/-- Column `j` of a device's result is pick `j`. -/
theorem merged_apply (a b : FVec Ideal S256x8 .bf16) (r : Fin 256) (j : Fin 8) :
    merged (F := Ideal) a b (ix2 r j) = picked (both a b r) j := by
  unfold merged
  rw [pay75_eq, pay77_eq, pay79_eq, pay81_eq, pay83_eq, pay85_eq, pay86_eq, pay87_eq]
  unfold k0_pay88
  rw [pay87_eq]
  unfold k0_pay1
  dsimp only
  rw [mask_leftV a b 6, rowMax_leftV a b 7]
  refine (cat8 _ _ _ _ _ _ _ _ r j).trans ?_
  fin_cases j <;> rfl

end Cert.Exchange

end
-- ==== Proof.Ranking.lean ====
module

public import proofs.«01_k».proof.Proof.Gen.ReferenceIdeal
public import proofs.«01_k».proof.On_ranked_without_tie
public import proofs.«01_k».proof.Proof.Select
public import Idealize.ShloMosaic.Lib.Pointwise
public import Idealize.ShloMosaic.Lib.SortFacts

@[expose] public section

noncomputable section

namespace Cert.Exchange

open Idealize.ShloMosaic

/-! ## The ranking of a row

The reference sorts the positions of each row by the negated values. -/

/-- A value is equal to itself, so the test for a value that is not a number fails. -/
theorem select_number {α : Type} (a : EReal) (x y : α) : Scalar.select (Ideal.cmp .une a a) x y = y := by
  simp [Scalar.select, Ideal.cmp]

/-- Replacing what equals `z` by `z` changes nothing. -/
theorem select_same (a z : EReal) : Scalar.select (Ideal.cmp .oeq a z) z a = a := by
  by_cases h : a = z
  · simp [Scalar.select, h]
  · simp [Scalar.select, Ideal.cmp, h]

/-- The reference's comparison of two keyed positions says which key is smaller. -/
theorem comparator_keys (a b : EReal × BitVec 32) :
    (Cert.ReferenceIdeal.comparator_f32_i32_d1 (F := Ideal) a b == 1#1) = decide (a.1 < b.1) := by
  show (Ideal.cmp .olt (Scalar.select (Ideal.cmp .une a.1 a.1) _ (Scalar.select (Ideal.cmp .oeq a.1 (Ideal.ofBits .f32 0x00000000#32)) (Ideal.ofBits .f32 0x00000000#32) a.1))
    (Scalar.select (Ideal.cmp .une b.1 b.1) _ (Scalar.select (Ideal.cmp .oeq b.1 (Ideal.ofBits .f32 0x00000000#32)) (Ideal.ofBits .f32 0x00000000#32) b.1)) == 1#1) = _
  rw [select_number, select_number, select_same, select_same]
  by_cases h : a.1 < b.1 <;> simp [Ideal.cmp, h]

/-- The mask's comparison of two keys says which is smaller. -/
theorem comparator_values (a b : EReal) :
    (Cert.On_ranked_without_tie.comparator_f32_d1 (F := Ideal) a b == 1#1) = decide (a < b) := by
  show (Ideal.cmp .olt (Scalar.select (Ideal.cmp .une a a) _ (Scalar.select (Ideal.cmp .oeq a (Ideal.ofBits .f32 0x00000000#32)) (Ideal.ofBits .f32 0x00000000#32) a))
    (Scalar.select (Ideal.cmp .une b b) _ (Scalar.select (Ideal.cmp .oeq b (Ideal.ofBits .f32 0x00000000#32)) (Ideal.ofBits .f32 0x00000000#32) b)) == 1#1) = _
  rw [select_number, select_number, select_same, select_same]
  by_cases h : a < b <;> simp [Ideal.cmp, h]

/-- The position in the row that holds the value ranked `k`, the largest first. -/
def place {n : ℕ} (row : Fin n → EReal) : Fin n → Fin n := sortedFrom fun k k' => decide (-row k < -row k')

/-- The ranking takes every position once. -/
def placing {n : ℕ} (row : Fin n → EReal) : Equiv.Perm (Fin n) :=
  Equiv.ofBijective (place row) ⟨sortedFrom_injective _, sortedFrom_surjective _⟩

/-- The permutation is the ranking. -/
theorem placing_apply {n : ℕ} (row : Fin n → EReal) (i : Fin n) : placing row i = place row i := rfl

/-- The values fall in rank order. -/
theorem placing_antitone {n : ℕ} (row : Fin n → EReal) : Antitone (row ∘ placing row) := by
  intro i j hij
  rcases eq_or_lt_of_le hij with rfl | hlt
  · exact le_refl _
  · have h := sortedFrom_noInversion (fun k k' => decide (-row k < -row k')) (fun k k' => decide (-row k < -row k'))
      (fun a b hab => decide_eq_false (not_lt_of_gt (of_decide_eq_true hab))) (fun _ _ hab => hab)
      (fun a b c hab hbc => decide_eq_false (not_lt.mpr ((not_lt.mp (of_decide_eq_false hbc)).trans (not_lt.mp (of_decide_eq_false hab))))) i j hlt
    exact EReal.neg_le_neg_iff.mp (not_lt.mp (of_decide_eq_false h))

/-- Row `r` of the whole array. -/
def rowOf (X : FVec Ideal ⟨2, ![256, 2048]⟩ .bf16) (r : Fin 256) (n : Fin 2048) : EReal := X (ix2 r n)

/-- The value of row `r` ranked `i`. -/
def rankOf (X : FVec Ideal ⟨2, ![256, 2048]⟩ .bf16) (r : Fin 256) (i : ℕ) : EReal := ranked (rowOf X r) (placing (rowOf X r)) i

/-- The shape of the whole array. -/
abbrev Whole : Shape := ⟨2, ![256, 2048]⟩

/-- Moving along the second axis. -/
theorem along_row (r : Fin 256) (j k : Fin 2048) : Shape.Idx.along (s := Whole) (ix2 r j) (1 : Fin 2) k = ix2 r k := by
  funext d
  match d with
  | ⟨0, _⟩ => rfl
  | ⟨1, _⟩ => rfl

/-- The word of a position. -/
theorem iota_row (r : Fin 256) (n : Fin 2048) : iotaInDim Whole 32 1 (ix2 r n) = BitVec.ofNat 32 n := by
  pointwise

/-- The words of the positions after the reference's sort. -/
theorem sort2_apply (x : FVec Ideal Whole .f32) (r : Fin 256) (n : Fin 2048) :
    (Host.sort2 Whole 1 (Cert.ReferenceIdeal.comparator_f32_i32_d1 (F := Ideal)) (Host.negf x) (iotaInDim Whole 32 1)).2 (ix2 r n)
      = BitVec.ofNat 32 (place (fun k => x (ix2 r k)) n) := by
  have h : (fun k k' : Fin 2048 => Cert.ReferenceIdeal.comparator_f32_i32_d1 (F := Ideal)
        (Host.negf x (Shape.Idx.along (s := Whole) (ix2 r n) (1 : Fin 2) k), iotaInDim Whole 32 1 (Shape.Idx.along (s := Whole) (ix2 r n) (1 : Fin 2) k))
        (Host.negf x (Shape.Idx.along (s := Whole) (ix2 r n) (1 : Fin 2) k'), iotaInDim Whole 32 1 (Shape.Idx.along (s := Whole) (ix2 r n) (1 : Fin 2) k')) == 1#1)
      = fun k k' => decide (-x (ix2 r k) < -x (ix2 r k')) := by
    funext k k'
    rw [comparator_keys, along_row, along_row]
    rfl
  show iotaInDim Whole 32 1 (Shape.Idx.along (s := Whole) (ix2 r n) (1 : Fin 2) (sortedFrom (fun k k' : Fin 2048 => Cert.ReferenceIdeal.comparator_f32_i32_d1 (F := Ideal)
        (Host.negf x (Shape.Idx.along (s := Whole) (ix2 r n) (1 : Fin 2) k), iotaInDim Whole 32 1 (Shape.Idx.along (s := Whole) (ix2 r n) (1 : Fin 2) k))
        (Host.negf x (Shape.Idx.along (s := Whole) (ix2 r n) (1 : Fin 2) k'), iotaInDim Whole 32 1 (Shape.Idx.along (s := Whole) (ix2 r n) (1 : Fin 2) k')) == 1#1) n)) = _
  rw [h]
  exact (congrArg (iotaInDim Whole 32 1) (along_row r n (place (fun k => x (ix2 r k)) n))).trans (iota_row r _)

/-- The values after the mask's sort. -/
theorem sort_apply (x : FVec Ideal Whole .f32) (r : Fin 256) (n : Fin 2048) :
    Host.sort Whole 1 (Cert.On_ranked_without_tie.comparator_f32_d1 (F := Ideal)) (Host.negf x) (ix2 r n)
      = -x (ix2 r (place (fun k => x (ix2 r k)) n)) := by
  have h : (fun k k' : Fin 2048 => Cert.On_ranked_without_tie.comparator_f32_d1 (F := Ideal)
        (Host.negf x (Shape.Idx.along (s := Whole) (ix2 r n) (1 : Fin 2) k)) (Host.negf x (Shape.Idx.along (s := Whole) (ix2 r n) (1 : Fin 2) k')) == 1#1)
      = fun k k' => decide (-x (ix2 r k) < -x (ix2 r k')) := by
    funext k k'
    rw [comparator_values, along_row, along_row]
    rfl
  show Host.negf x (Shape.Idx.along (s := Whole) (ix2 r n) (1 : Fin 2) (sortedFrom (fun k k' : Fin 2048 => Cert.On_ranked_without_tie.comparator_f32_d1 (F := Ideal)
        (Host.negf x (Shape.Idx.along (s := Whole) (ix2 r n) (1 : Fin 2) k)) (Host.negf x (Shape.Idx.along (s := Whole) (ix2 r n) (1 : Fin 2) k')) == 1#1) n)) = _
  rw [h]
  exact congrArg (Host.negf x) (along_row r n (place (fun k => x (ix2 r k)) n))

end Cert.Exchange

end
-- ==== Proof.Halves.lean ====
module

public import proofs.«01_k».proof.Proof.Local
public import proofs.«01_k».proof.Proof.Merge
public import proofs.«01_k».proof.Proof.Ranking

@[expose] public section

noncomputable section

namespace Cert.Exchange

open Cert.KernelIdeal Cert.KernelIdeal.Gen
open Idealize.ShloMosaic

/-! ## Two halves of a row hold its largest values

The whole array's rows are cut into two halves. The eight largest of a half, with the eight largest of the other, hold the eight
largest of the row. -/

/-- The block `x` is half `h` of the whole array's rows. -/
def HalfOf (h : Fin 2) (x : FVec Ideal S256x1024 .bf16) (X : FVec Ideal Whole .bf16) : Prop :=
  ∀ (r : Fin 256) (n : Fin 1024), x (ix2 r n) = rowOf X r ⟨1024 * h + n, by omega⟩

/-- Where slot `k` of place `q` of half `h` stands in the whole row. -/
def spot (h : Fin 2) (q : Fin 128) (k : Fin 8) : Fin 2048 := ⟨1024 * h + (128 * k + q), by omega⟩

/-- Different slots stand at different positions. -/
theorem spot_injective {h : Fin 2} {q q' : Fin 128} {k k' : Fin 8} (e : spot h q k = spot h q' k') : q = q' ∧ k = k' := by
  have e' := congrArg Fin.val e
  simp only [spot] at e'
  constructor <;> apply Fin.ext <;> omega

/-- Every position of a row is a slot of one of the halves. -/
theorem exists_spot (n : Fin 2048) : ∃ h q k, n = spot h q k :=
  ⟨⟨n / 1024, by omega⟩, ⟨n % 128, by omega⟩, ⟨n % 1024 / 128, by omega⟩, by apply Fin.ext; simp only [spot]; omega⟩

variable {h : Fin 2} {x : FVec Ideal S256x1024 .bf16} {X : FVec Ideal Whole .bf16}

/-- A column lists the values at its place in some order. -/
theorem column_spot (hx : HalfOf h x X) (r : Fin 256) (q : Fin 128) :
    ∃ σ : Equiv.Perm (Fin 8), ∀ j : Fin 8, column x r q j = rowOf X r (spot h q (σ j)) := by
  obtain ⟨σ, hσ⟩ := runWires_perm wires (fun k : Fin 8 => x (ix2 r ⟨128 * k + q, by omega⟩))
  refine ⟨σ, fun j => ?_⟩
  have hj : (j : ℕ) < 8 := j.2
  unfold column
  rw [dif_pos hj, hσ]
  exact hx r ⟨128 * σ j + q, by omega⟩

/-- A column falls. -/
theorem column_antitone (x : FVec Ideal S256x1024 .bf16) (r : Fin 256) (q : Fin 128) : Antitone (column x r q) := by
  intro i j hij
  by_cases hj : j < 8
  · have hi : i < 8 := by omega
    unfold column
    rw [dif_pos hi, dif_pos hj]
    exact runWires_antitone _ (show (⟨i, hi⟩ : Fin 8) ≤ ⟨j, hj⟩ from hij)
  · unfold column
    rw [dif_neg hj]
    exact bot_le

/-- Below its eight values a column holds the least value. -/
theorem column_bot (x : FVec Ideal S256x1024 .bf16) (r : Fin 256) (q : Fin 128) (j : ℕ) (hj : 8 ≤ j) : column x r q j = ⊥ :=
  dif_neg (by omega)

/-- Each of the eight values a half gives is a value of the row. -/
theorem popped_mem (hx : HalfOf h x X) (r : Fin 256) (i : ℕ) (hi : i < 8) : ∃ n, popped (column x r) i = rowOf X r n := by
  obtain ⟨q, hq⟩ := exists_head (column x r) i
  obtain ⟨σ, hσ⟩ := column_spot hx r q
  have hm : moved (column x r) i q < 8 := lt_of_le_of_lt (moved_le _ i q) hi
  exact ⟨_, hq.trans (hσ ⟨_, hm⟩)⟩

/-- A value of the half that is ranked `i` in the whole row is among the first `i + 1` the half gives. -/
theorem popped_rank (hx : HalfOf h x X) (r : Fin 256) (i : ℕ) (hi : i < 8) (q : Fin 128) (k : Fin 8)
    (hn : rowOf X r (spot h q k) = rankOf X r i) : ∃ i', i' ≤ i ∧ popped (column x r) i' = rankOf X r i := by
  choose σ hσ using fun q => column_spot hx r q
  have hslot : column x r q (((σ q).symm k : Fin 8) : ℕ) = rankOf X r i := by
    rw [hσ, Equiv.apply_symm_apply, hn]
  have hcard : (Finset.univ.filter fun p : Fin 128 × Fin 8 => column x r q (((σ q).symm k : Fin 8) : ℕ) < column x r p.1 p.2).card ≤ i := by
    refine le_trans ?_ (card_above_ranked (rowOf X r) (placing (rowOf X r)) (placing_antitone _) i (by omega))
    refine Finset.card_le_card_of_injOn (fun p => spot h p.1 (σ p.1 p.2)) (fun p hp => ?_) (fun p _ p' _ e => ?_)
    · have hp' := (Finset.mem_filter.mp hp).2
      rw [hslot, hσ] at hp'
      exact Finset.mem_coe.mpr (Finset.mem_filter.mpr ⟨Finset.mem_univ _, hp'⟩)
    · obtain ⟨h₁, h₂⟩ := spot_injective e
      obtain ⟨a, b⟩ := p
      obtain ⟨a', b'⟩ := p'
      dsimp only at h₁ h₂
      subst h₁
      exact congrArg (Prod.mk a) ((σ a).injective h₂)
  obtain ⟨i', hi', he⟩ := exists_popped_eq (column x r) (column_antitone x r) (column_bot x r) q _ i hcard
  exact ⟨i', hi', he.trans hslot⟩

/-- The eight values taken off both halves' lists are the row's ranked values, wherever the ranked values fall strictly or are the
    least value. -/
theorem merged_halves {h' : Fin 2} {x' : FVec Ideal S256x1024 .bf16} (hx : HalfOf h x X) (hx' : HalfOf h' x' X) (hne : h ≠ h')
    (r : Fin 256) (j : Fin 8) (hmask : (∀ i < (j : ℕ), rankOf X r (i + 1) < rankOf X r i) ∨ rankOf X r j = ⊥) :
    merged (F := Ideal) (localTop (F := Ideal) x) (localTop (F := Ideal) x') (ix2 r j) = rankOf X r j := by
  rw [merged_apply]
  have hfirst : ∀ i (hi : i < 8), both (localTop (F := Ideal) x) (localTop (F := Ideal) x') r ⟨i, by omega⟩ = popped (column x r) i :=
    fun i hi => (dif_pos hi).trans (localTop_apply x r ⟨i, hi⟩)
  have hsecond : ∀ i (hi : i < 8), both (localTop (F := Ideal) x) (localTop (F := Ideal) x') r ⟨i + 8, by omega⟩ = popped (column x' r) i := by
    intro i hi
    refine (dif_neg (by simp)).trans ?_
    refine Eq.trans ?_ (localTop_apply x' r ⟨i, hi⟩)
    congr 2
  have hv : ∀ p, ∃ n, both (localTop (F := Ideal) x) (localTop (F := Ideal) x') r p = rowOf X r n := by
    intro p
    by_cases hp : (p : ℕ) < 8
    · exact hfirst p hp ▸ popped_mem hx r p hp
    · have hp8 : (p : ℕ) - 8 < 8 := by omega
      have e : p = ⟨(p : ℕ) - 8 + 8, by omega⟩ := Fin.ext (by simp only; omega)
      rw [e, hsecond _ hp8]
      exact popped_mem hx' r _ hp8
  have h0 : ∀ v : EReal, (∃ n, v = rowOf X r n) → v ≤ rankOf X r 0 := by
    rintro v ⟨n, rfl⟩
    exact le_ranked_zero _ _ (placing_antitone _) n
  have hs : ∀ (i : ℕ) (v : EReal), (∃ n, v = rowOf X r n) → v < rankOf X r i → v ≤ rankOf X r (i + 1) := by
    rintro i v ⟨n, rfl⟩ hlt
    exact le_ranked_succ _ _ (placing_antitone _) i n hlt
  rcases hmask with hfall | hbot
  · refine picked_eq _ (fun v => ∃ n, v = rowOf X r n) (rankOf X r) hv h0 hs j hfall fun i hi => ?_
    have hi8 : i < 8 := by omega
    have hrank : rankOf X r i = rowOf X r (placing (rowOf X r) ⟨i, by omega⟩) := dif_pos (by omega)
    obtain ⟨g, q, k, hn⟩ := exists_spot (placing (rowOf X r) ⟨i, by omega⟩)
    rw [hn] at hrank
    by_cases hg : g = h
    · subst hg
      obtain ⟨i', hi', he⟩ := popped_rank hx r i hi8 q k hrank.symm
      exact ⟨_, (hfirst i' (by omega)).trans he⟩
    · have hg' : g = h' := by
        apply Fin.ext
        have := Fin.val_ne_of_ne hne
        have := Fin.val_ne_of_ne hg
        omega
      subst hg'
      obtain ⟨i', hi', he⟩ := popped_rank hx' r i hi8 q k hrank.symm
      exact ⟨_, (hsecond i' (by omega)).trans he⟩
  · have := picked_le _ (fun v => ∃ n, v = rowOf X r n) (rankOf X r) hv h0 hs j
    rw [hbot] at this ⊢
    exact le_bot_iff.mp this

end Cert.Exchange

end
-- ==== Proof.Mask.lean ====
module

public import proofs.«01_k».proof.Proof.Ranking
public import proofs.«01_k».proof.Proof.Gen.On_ranked_without_tie

@[expose] public section

noncomputable section

namespace Cert.Exchange

open Cert.On_ranked_without_tie Cert.On_ranked_without_tie.Gen
open Idealize.ShloMosaic

/-! ## Words of one bit -/

/-- A disjunction that is one has a part that is one. -/
theorem or_one {a b : BitVec 1} (h : IntOp.ori a b = 1#1) : a = 1#1 ∨ b = 1#1 := by
  revert a b
  decide

/-- A conjunction that is one has both parts one. -/
theorem and_one {a b : BitVec 1} (h : IntOp.andi a b = 1#1) : a = 1#1 ∧ b = 1#1 := by
  revert a b
  decide

/-- The bit of a decision is one only when the decision holds. -/
theorem of_decide_one {p : Prop} [Decidable p] (h : BitVec.ofBool (decide p) = 1#1) : p := by
  by_contra hp
  rw [decide_eq_false hp] at h
  exact absurd h (by decide)

/-- A conjunction over a set is one only when every entry is one. -/
theorem fold_and {ι : Type} (s : Finset ι) (f : ι → BitVec 1) (h : s.fold IntOp.andi 1#1 f = 1#1) : ∀ x ∈ s, f x = 1#1 := by
  classical
  induction s using Finset.induction_on with
  | empty => intro x hx; exact absurd hx (Finset.notMem_empty x)
  | insert a s ha ih =>
    rw [Finset.fold_insert ha] at h
    obtain ⟨h₁, h₂⟩ := and_one h
    intro x hx
    rcases Finset.mem_insert.mp hx with rfl | hx
    · exact h₁
    · exact ih h₂ x hx

/-- A smaller position isn't at or above a larger one. -/
theorem not_sge (i : ℕ) (j : Fin 8) (hi : i < 7) (hij : i < j) : IntOp.cmpi CmpIPredicate.sge (BitVec.ofNat 32 i) (BitVec.ofNat 32 j) ≠ 1#1 := by
  revert j
  interval_cases i <;> decide

/-! ## The mask, read at an index -/

/-- The mask's eight largest values of every row. -/
def topValues (X : FVec Ideal S256x2048 .bf16) : FVec Ideal S256x8 .f32 :=
  Host.negf (extractStridedSlice S256x8 ![0, 0] (Host.sort S256x2048 1 (comparator_f32_d1 (F := Ideal)) (Host.negf (extf .f32 X bitsLt_bf16_f32))) slices_S256x2048_S256x8_0_0)

/-- They are the ranked values. -/
theorem topValues_apply (X : FVec Ideal S256x2048 .bf16) (r : Fin 256) (j : Fin 8) : topValues X (ix2 r j) = rankOf X r j := by
  have h := sort_apply (extf .f32 X bitsLt_bf16_f32) r ⟨j, by omega⟩
  unfold topValues
  generalize Host.sort S256x2048 1 (comparator_f32_d1 (F := Ideal)) (Host.negf (extf .f32 X bitsLt_bf16_f32)) = v at h
  have hj : (j : ℕ) < 2048 := by omega
  have hr : rankOf X r j = rowOf X r (placing (rowOf X r) ⟨j, hj⟩) := dif_pos hj
  rw [hr, placing_apply]
  pointwise
  exact (congrArg (fun y : EReal => -y) h).trans (neg_neg (rowOf X r (place (rowOf X r) ⟨j, hj⟩) : EReal))

/-- The least value's pattern. -/
theorem ofBits_lowest_wide : Ideal.ofBits FTy.f32 0xFF800000#32 = (⊥ : EReal) := rfl

/-- Where the mask holds, the first `j + 1` values fall strictly or the value ranked `j` is `-∞`. -/
theorem mask_spec (X : FVec Ideal S256x2048 .bf16) (r : Fin 256) (j : Fin 8) (h : Cert.On_ranked_without_tie.fn (F := Ideal) X (ix2 r j) = 1#1) :
    (∀ i < (j : ℕ), rankOf X r (i + 1) < rankOf X r i) ∨ rankOf X r j = ⊥ := by
  have ht := topValues_apply X r
  unfold Cert.On_ranked_without_tie.fn Cert.On_ranked_without_tie.fn_sort at h
  dsimp only at h
  change (ori (Host.reduce IntOp.andi (ori (broadcastInDim S256x8x7 ![0, 1, 2] bcast_S256x1x7_S256x8x7_0_1_2 (broadcastInDim S256x1x7 ![0, 2] bcast_S256x7_S256x1x7_0_2 (cmpf .ogt (extractStridedSlice S256x7 ![0, 0] (topValues X) slices_S256x8_S256x7_0_0) (extractStridedSlice S256x7 ![0, 1] (topValues X) slices_S256x8_S256x7_0_1)))) (cmpi .sge (iotaInDim S256x8x7 32 2) (iotaInDim S256x8x7 32 1))) (constantI S_ 1 1#1) reducesTo_S256x8x7_S256x8_d2 h_S_) (cmpf .oeq (topValues X) (broadcastInDim S256x8 ![] bcast_S_S256x8 (constant S_ .f32 0xFF800000#32)))) (ix2 r j) = 1#1 at h
  generalize topValues X = t at h ht
  revert h
  pointwise
  intro h
  rcases or_one h with h | h
  · refine Or.inl fun i hi => ?_
    have hi7 : i < 7 := by omega
    rcases or_one (fold_and _ _ h ⟨i, hi7⟩ (Finset.mem_univ _)) with hf | hg
    · have hlt := of_decide_one hf
      rw [ht, ht] at hlt
      rw [Nat.add_comm i 1]
      exact hlt
    · exact absurd hg (not_sge i j hi7 hi)
  · have he := of_decide_one h
    rw [ht] at he
    exact Or.inr (he.trans ofBits_lowest_wide)

end Cert.Exchange

end
-- ==== Proof.Reference.lean ====
module

public import proofs.«01_k».proof.Proof.Ranking
public import proofs.«01_k».proof.Proof.Gen.ReferenceIdeal.Run

@[expose] public section

noncomputable section

namespace Cert.Exchange

open Cert.ReferenceIdeal Cert.ReferenceIdeal.Gen
open Idealize.ShloMosaic

/-! ## The reference's result, read at an index -/

/-- The words of the first eight sorted positions. -/
def sortedAt (X : FVec Ideal S256x2048 .bf16) : IVec S256x8 32 :=
  extractStridedSlice S256x8 ![0, 0] ((Host.sort2 S256x2048 1 (comparator_f32_i32_d1 (F := Ideal)) (Host.negf (extf .f32 X bitsLt_bf16_f32)) (iotaInDim S256x2048 32 1)).2) slices_S256x2048_S256x8_0_0

/-- The same words as the gather's starts, a negative one wrapped round. -/
def starts (X : FVec Ideal S256x2048 .bf16) : IVec S256x8x1 32 :=
  shapeCast S256x8x1 (select (cmpi .slt (sortedAt X) (broadcastInDim S256x8 ![] bcast_S_S256x8 (constantI S_ 32 0#32))) (addi (sortedAt X) (broadcastInDim S256x8 ![] bcast_S_S256x8 (constantI S_ 32 2048#32))) (sortedAt X)) shapeCasts_S256x8_S256x8x1

/-- The reference's result as its text composes it. -/
def referenceValue (X : FVec Ideal S256x2048 .bf16) : FVec Ideal S256x8 .f32 :=
  select (Host.reduce IntOp.andi (andi (cmpi .sge (starts X) (broadcastInDim S256x8x1 ![] bcast_S_S256x8x1 (constantI S_ 32 0#32))) (cmpi .sle (starts X) (broadcastInDim S256x8x1 ![0, 1, 2] bcast_S1x1x1_S256x8x1_0_1_2 (broadcastInDim S1x1x1 ![2] bcast_S1_S1x1x1_2 (constantI S1 32 2047#32))))) (constantI S_ 1 1#1) reducesTo_S256x8x1_S256x8_d2 h_S_) (Host.gather gather_S256x2048_S256x8x1_S256x8_n_1_0_0_1_2_11 (extf .f32 X bitsLt_bf16_f32) (starts X)) (broadcastInDim S256x8 ![] bcast_S_S256x8 (constant S_ .f32 0x7FC00000#32))

/-- The first eight sorted positions of a row are where the largest values stand. -/
theorem sortedAt_apply (X : FVec Ideal S256x2048 .bf16) (r : Fin 256) (j : Fin 8) :
    sortedAt X (ix2 r j) = BitVec.ofNat 32 (place (rowOf X r) ⟨j, by omega⟩) := by
  refine Eq.trans ?_ (sort2_apply (extf .f32 X bitsLt_bf16_f32) r ⟨j, by omega⟩)
  unfold sortedAt
  generalize (Host.sort2 S256x2048 1 (comparator_f32_i32_d1 (F := Ideal)) (Host.negf (extf .f32 X bitsLt_bf16_f32)) (iotaInDim S256x2048 32 1)).2 = v
  pointwise

/-- A position's word, read signed, is the position. -/
theorem word_toInt (n : ℕ) (h : n < 2048) : (BitVec.ofNat 32 n).toInt = n := by
  rw [BitVec.toInt_eq_toNat_of_lt (by rw [BitVec.toNat_ofNat]; omega), BitVec.toNat_ofNat]
  omega

/-- A position's word is not negative. -/
theorem word_not_neg (n : ℕ) (h : n < 2048) : IntOp.cmpi .slt (BitVec.ofNat 32 n) 0#32 = 0#1 := by
  have h1 := word_toInt n h
  have h2 : ¬(n : ℤ) < 0 := by omega
  simp [IntOp.cmpi, BitVec.slt, h1, h2]

/-- A position's word lies within the row. -/
theorem word_in_row (n : ℕ) (h : n < 2048) :
    IntOp.andi (IntOp.cmpi .sge (BitVec.ofNat 32 n) 0#32) (IntOp.cmpi .sle (BitVec.ofNat 32 n) 2047#32) = 1#1 := by
  have h1 := word_toInt n h
  have h2 : n ≤ 2047 := by omega
  simp [IntOp.cmpi, IntOp.andi, BitVec.sle, h1, h2]

/-- The starts are the positions themselves. -/
theorem starts_apply (X : FVec Ideal S256x2048 .bf16) (r : Fin 256) (j : Fin 8) (z : Fin 1) :
    starts X (ix3 r j z) = BitVec.ofNat 32 (place (rowOf X r) ⟨j, by omega⟩) := by
  unfold starts
  have h := sortedAt_apply X r j
  generalize sortedAt X = v at h
  pointwise
  rw [h, word_not_neg _ (Fin.isLt _)]
  rfl

/-- The gather reads the row at the start's word, kept within the row. -/
theorem gather_apply (x : FVec Ideal S256x2048 .f32) (w : IVec S256x8x1 32) (r : Fin 256) (j : Fin 8) :
    Host.gather gather_S256x2048_S256x8x1_S256x8_n_1_0_0_1_2_11 x w (ix2 r j)
      = x (ix2 r ⟨min (w (ix3 r j 0)).toInt.toNat 2047, by omega⟩) := by
  have hs : gather_S256x2048_S256x8x1_S256x8_n_1_0_0_1_2_11.siIdx (ix2 r j) ⟨0, Nat.one_pos⟩ = ix3 r j 0 := by
    funext b
    match b with
    | ⟨0, _⟩ => rfl
    | ⟨1, _⟩ => rfl
    | ⟨2, _⟩ => rfl
  show x _ = x _
  congr 1
  funext a
  match a with
  | ⟨0, _⟩ => exact Fin.ext (by show 0 + r.val + 0 = r.val; omega)
  | ⟨1, _⟩ =>
    apply Fin.ext
    show min (w (gather_S256x2048_S256x8x1_S256x8_n_1_0_0_1_2_11.siIdx (ix2 r j) ⟨0, Nat.one_pos⟩)).toInt.toNat 2047 + 0 + 0 = min (w (ix3 r j 0)).toInt.toNat 2047
    rw [hs]
    omega

/-- Widening changes no value. -/
theorem wide_row (X : FVec Ideal S256x2048 .bf16) (r : Fin 256) (n : Fin 2048) : extf .f32 X bitsLt_bf16_f32 (ix2 r n) = rowOf X r n := rfl

/-- The reference's entry `(r, j)` is the value of row `r` ranked `j`. -/
theorem referenceValue_apply (X : FVec Ideal S256x2048 .bf16) (r : Fin 256) (j : Fin 8) :
    referenceValue X (ix2 r j) = rankOf X r j := by
  have hs := starts_apply X r j
  have hg := gather_apply (extf .f32 X bitsLt_bf16_f32) (starts X) r j
  unfold referenceValue
  generalize starts X = w at hs hg
  generalize Host.gather gather_S256x2048_S256x8x1_S256x8_n_1_0_0_1_2_11 (extf .f32 X bitsLt_bf16_f32) w = g at hg
  pointwise
  have hw := word_in_row (place (rowOf X r) ⟨j, by omega⟩) (Fin.isLt _)
  have hk : (⟨min (w (ix3 r j 0)).toInt.toNat 2047, by omega⟩ : Fin 2048) = place (rowOf X r) ⟨j, by omega⟩ := by
    apply Fin.ext
    show min (w (ix3 r j 0)).toInt.toNat 2047 = (place (rowOf X r) ⟨j, _⟩).val
    rw [hs, word_toInt _ (Fin.isLt _)]
    have := (place (rowOf X r) ⟨j, by omega⟩).isLt
    omega
  simp only [hs, hw, Finset.univ_unique, Finset.fold_singleton]
  rw [hg, hk]
  have hj : (j : ℕ) < 2048 := by omega
  have hr : rankOf X r j = rowOf X r (placing (rowOf X r) ⟨j, hj⟩) := dif_pos hj
  rw [hr, placing_apply, wide_row, show IntOp.andi 1#1 1#1 = 1#1 from rfl]
  exact if_pos rfl

end Cert.Exchange

end
-- ==== Proof.Algebraic.lean ====
module

public import proofs.«01_k».proof.Defs
public import proofs.«01_k».proof.Proof.Run
public import proofs.«01_k».proof.Proof.Halves
public import proofs.«01_k».proof.Proof.Mask
public import proofs.«01_k».proof.Proof.Reference
public import Idealize.ShloMosaic.Lib.LayoutAt

@[expose] public section

noncomputable section

namespace Cert.Exchange

open Idealize.ShloMosaic Idealize.ShloMosaic.TcCoe
open Idealize.SL.Sem

/-! ## The value claim -/

/-- Which half of the rows a device holds. -/
def halfAt (c : Dev Cert.KernelIdeal.nD) : Fin 2 := ⟨c.val / 8, by have := c.isLt; change c.val < 16 at this; omega⟩

/-- A device and its mate hold different halves. -/
theorem halfAt_mate (c : Dev Cert.KernelIdeal.nD) : halfAt c ≠ halfAt (mate c) := by
  revert c
  decide

/-- A device's block of the whole array is its half of the rows. -/
theorem block_half (c : Dev Cert.KernelIdeal.nD) (X : FVec Ideal Whole .bf16) :
    HalfOf (halfAt c) (Layout.blockN ⟨2, ![256, 1024]⟩ ⟨2, ![256, 2048]⟩ (Layout.meshBlock [2, 2, 4] ![[], [0]] c) X) X := by
  intro r n
  rw [Layout.blockN_apply]
  refine congrArg X ?_
  fin_cases c <;> shard_ext

/-- Where the mask holds, what a device stores is what the reference computes. -/
theorem stored_eq (c : Dev Cert.KernelIdeal.nD) (X : FVec Ideal Whole .bf16) (x x' : FVec Ideal Cert.KernelIdeal.S256x1024 .bf16)
    (hx : x = Layout.blockN ⟨2, ![256, 1024]⟩ ⟨2, ![256, 2048]⟩ (Layout.meshBlock [2, 2, 4] ![[], [0]] c) X)
    (hx' : x' = Layout.blockN ⟨2, ![256, 1024]⟩ ⟨2, ![256, 2048]⟩ (Layout.meshBlock [2, 2, 4] ![[], [0]] (mate c)) X)
    (i : (⟨2, ![256, 8]⟩ : Shape).Idx)
    (hi : (Cert.On_ranked_without_tie.fn (F := Ideal) X) i = 1#1) :
    merged (F := Ideal) (localTop (F := Ideal) x) (localTop (F := Ideal) x') i = referenceValue X i := by
  obtain ⟨r, j, rfl⟩ : ∃ (r : Fin 256) (j : Fin 8), i = ix2 r j := ⟨i 0, i 1, eq_ix2 i⟩
  subst hx hx'
  exact (merged_halves (block_half c X) (block_half (mate c) X) (halfAt_mate c) r j (mask_spec X r j hi)).trans
    (referenceValue_apply X r j).symm

/-- Every device stores the reference's values at every index the mask sets. -/
theorem values_agree : Cert.algebraic_KernelIdeal_ReferenceIdeal_on_ranked_without_tie (hKernelIdeal := Cert.KernelIdeal.Gen.facts)
    (hReferenceIdeal := Cert.ReferenceIdeal.Gen.facts) (hOn_ranked_without_tie := Cert.On_ranked_without_tie.Gen.facts) := by
  intro m g m' g' _ hin
  refine ⟨referenceValue (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨fun i hi => ?_, (h.1 c).2⟩) (run_values (F := Ideal) m g)
    exact (congrFun (h.1 c).1 i).trans (stored_eq c _ _ _ (hin c) (hin (mate c)) i hi)
  · exact (θ_run (Cert.ReferenceIdeal.defs (F := Ideal)) _ _).mono (fun r h => ⟨fun i _ => congrFun (h 0).1 i, (h 0).2⟩)
      (Cert.ReferenceIdeal.Value.run (F := Ideal) m' g')

end Cert.Exchange

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_ranked_without_tie
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_ranked_without_tie.Gen.facts, Cert.Exchange.kernel_frame, Cert.Exchange.kernelIdeal_frame, Cert.Exchange.referenceIdeal_frame, Cert.Exchange.lowest_preserves, Cert.Exchange.values_agree⟩

end Cert.Proof

end
